-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x32x16x32x32 : Shape := ⟨5, ![4, 32, 16, 32, 32]⟩
abbrev S1024x32 : Shape := ⟨2, ![1024, 32]⟩
abbrev S_ : Shape := ⟨0, ![]⟩

class Facts : Prop where
  bcast_S_S4x32x16x32x32 : S_.BroadcastsInDim S4x32x16x32x32 (![] : Fin 0 → Fin S4x32x16x32x32.rank)
  reducesTo_S4x32x16x32x32_S_d0_1_2_3_4 : S4x32x16x32x32.ReducesTo [0, 1, 2, 3, 4] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S4x32x16x32x32 .f32) (main_arg1 : FVec F S1024x32 .f32) : IVec S_ 1 × IVec S_ 1 :=
  let main_v0 : FVec F S4x32x16x32x32 .f32 := Host.absf main_arg0
  let main_cst : FVec F S_ .f32 := constant S_ .f32 0x7F800000#32
  let main_v1 : FVec F S4x32x16x32x32 .f32 := broadcastInDim S4x32x16x32x32 ![] bcast_S_S4x32x16x32x32 main_cst
  let main_v2 : IVec S4x32x16x32x32 1 := cmpf .olt main_v0 main_v1
  let main_c : IVec S_ 1 := constantI S_ 1 1#1
  let main_v3 : IVec S_ 1 := (fun x v => Host.reduce IntOp.andi x v reducesTo_S4x32x16x32x32_S_d0_1_2_3_4 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  (main_v3, main_v7)
-- ==== Kernel.lean ====
abbrev S4x32x16x32x32 : Shape := ⟨5, ![4, 32, 16, 32, 32]⟩
abbrev S1024x32 : Shape := ⟨2, ![1024, 32]⟩
abbrev S4x32x512x32 : Shape := ⟨4, ![4, 32, 512, 32]⟩
abbrev S16x32x128 : Shape := ⟨3, ![16, 32, 128]⟩
abbrev S1x1 : Shape := ⟨2, ![1, 1]⟩
abbrev S65536 : Shape := ⟨1, ![65536]⟩
abbrev S_ : Shape := ⟨0, ![]⟩
abbrev S1x32x128x32 : Shape := ⟨4, ![1, 32, 128, 32]⟩
abbrev S1x32x128 : Shape := ⟨3, ![1, 32, 128]⟩
abbrev S1024x1 : Shape := ⟨2, ![1024, 1]⟩
abbrev S32x1024 : Shape := ⟨2, ![32, 1024]⟩
abbrev S1024 : Shape := ⟨1, ![1024]⟩
abbrev S32x128x32 : Shape := ⟨3, ![32, 128, 32]⟩
abbrev S32x4096 : Shape := ⟨2, ![32, 4096]⟩
abbrev S1024x4096 : Shape := ⟨2, ![1024, 4096]⟩
abbrev S4096 : Shape := ⟨1, ![4096]⟩
abbrev S1x4096 : Shape := ⟨2, ![1, 4096]⟩
abbrev S32x128 : Shape := ⟨2, ![32, 128]⟩
abbrev S1x32x4096 : Shape := ⟨3, ![1, 32, 4096]⟩
abbrev S1 : Shape := ⟨1, ![1]⟩
abbrev S1x1x1 : Shape := ⟨3, ![1, 1, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x32x16x32x32, .f32⟩
  | .hbm, ⟨1, _⟩ => ⟨S1024x32, .f32⟩
  | .hbm, ⟨2, _⟩ => ⟨S4x32x512x32, .f32⟩
  | .hbm, ⟨3, _⟩ => ⟨S4x32x512x32, .f32⟩
  | .hbm, ⟨4, _⟩ => ⟨S16x32x128, .i32⟩
  | .hbm, ⟨5, _⟩ => ⟨S1x1, .f32⟩
  | .hbm, ⟨6, _⟩ => ⟨S4x32x16x32x32, .f32⟩
  | .hbm, ⟨7, _⟩ => ⟨S65536, .i32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x32x128x32, .f32⟩
  | .local _ .vmem, ⟨1, _⟩ => ⟨S1x32x128x32, .f32⟩
  | .local _ .vmem, ⟨2, _⟩ => ⟨S1024x32, .f32⟩
  | .local _ .vmem, ⟨3, _⟩ => ⟨S1x32x128x32, .f32⟩
  | .local _ .vmem, ⟨4, _⟩ => ⟨S1x32x128x32, .f32⟩
  | .local _ .vmem, ⟨5, _⟩ => ⟨S1x32x128, .i32⟩
  | .local _ .vmem, ⟨6, _⟩ => ⟨S1x32x128, .i32⟩
  | .local _ .vmem, ⟨7, _⟩ => ⟨S1x1, .f32⟩
  | .local _ .vmem, ⟨8, _⟩ => ⟨S1024x32, .f32⟩
  | .local _ .vmem, ⟨9, _⟩ => ⟨S1024x1, .f32⟩
  | .local _ .vmem, ⟨10, _⟩ => ⟨S32x1024, .f32⟩
  | _, _ => ⟨S4x32x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v1_2 : Ref sig .tc := ⟨.hbm, 5, rfl⟩
abbrev main_v0_0 : Ref sig .tc := ⟨.hbm, 6, rfl⟩
abbrev main_v0_2 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_cst_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S4x32x16x32x32 : Shape := ⟨5, ![4, 32, 16, 32, 32]⟩
abbrev S1024x32 : Shape := ⟨2, ![1024, 32]⟩
abbrev S4x16x32x32x32 : Shape := ⟨5, ![4, 16, 32, 32, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S32x1024 : Shape := ⟨2, ![32, 1024]⟩
abbrev S65536x1024 : Shape := ⟨2, ![65536, 1024]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S4x32x16x32x32, .f32⟩
  | .hbm, ⟨1, _⟩ => ⟨S1024x32, .f32⟩
  | .hbm, ⟨2, _⟩ => ⟨S4x16x32x32x32, .f32⟩
  | .hbm, ⟨3, _⟩ => ⟨S65536x32, .f32⟩
  | .hbm, ⟨4, _⟩ => ⟨S65536x32, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S1024x32, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .i32⟩
  | .hbm, ⟨22, _⟩ => ⟨S_, .f32⟩
  | .hbm, ⟨23, _⟩ => ⟨S_, .i32⟩
  | .hbm, ⟨24, _⟩ => ⟨S65536, .f32⟩
  | .hbm, ⟨25, _⟩ => ⟨S65536, .i32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S1, .i32⟩
  | .hbm, ⟨35, _⟩ => ⟨S_, .i32⟩
  | .hbm, ⟨36, _⟩ => ⟨S65536x1, .i32⟩
  | .hbm, ⟨37, _⟩ => ⟨S65536x1, .i1⟩
  | .hbm, ⟨38, _⟩ => ⟨S1x1, .i32⟩
  | .hbm, ⟨39, _⟩ => ⟨S65536x1, .i32⟩
  | .hbm, ⟨40, _⟩ => ⟨S65536x1, .i1⟩
  | .hbm, ⟨41, _⟩ => ⟨S65536x1, .i1⟩
  | .hbm, ⟨42, _⟩ => ⟨S_, .i1⟩
  | .hbm, ⟨43, _⟩ => ⟨S65536, .i1⟩
  | .hbm, ⟨44, _⟩ => ⟨S65536x32, .f32⟩
  | .hbm, ⟨45, _⟩ => ⟨S65536x32, .i1⟩
  | .hbm, ⟨46, _⟩ => ⟨S_, .f32⟩
  | .hbm, ⟨47, _⟩ => ⟨S65536x32, .f32⟩
  | .hbm, ⟨48, _⟩ => ⟨S65536x32, .f32⟩
  | .hbm, ⟨49, _⟩ => ⟨S65536x32, .f32⟩
  | .hbm, ⟨50, _⟩ => ⟨S65536x32, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S65536x32, .f32⟩
  | .hbm, ⟨56, _⟩ => ⟨S65536x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S65536x32, .f32⟩
  | .hbm, ⟨65, _⟩ => ⟨S65536x32, .f32⟩
  | .hbm, ⟨66, _⟩ => ⟨S4x16x32x32x32, .f32⟩
  | .hbm, ⟨67, _⟩ => ⟨S4x32x16x32x32, .f32⟩
  | _, _ => ⟨S4x32x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Vq.Body.lean ====
/- What one grid point of the idealized kernel computes, and the body's triples in its two cases. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal.Vq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The block functions -/

/-- The scores of a block of points against the codebook `e`. -/
def scores (x : Vec F S1x32x128x32 .f32) (e : Vec F S1024x32 .f32) : FVec F S32x4096 .f32 :=
  k0_pay6 x (k0_pay2 e) (k0_pay3 e) k0_pay4
/-- The winning group of each point of the block. -/
def group (x : Vec F S1x32x128x32 .f32) (e : Vec F S1024x32 .f32) : IVec S4096 32 :=
  k0_pay7 x (k0_pay2 e) (k0_pay3 e) k0_pay4
/-- The winning group, repeated over the groups. -/
def groups (x : Vec F S1x32x128x32 .f32) (e : Vec F S1024x32 .f32) : IVec S32x4096 32 :=
  k0_pay8 x (k0_pay2 e) (k0_pay3 e) k0_pay4
/-- The row number of each entry of a group-by-point block. -/
def rows : IVec S32x4096 32 := iota .tc S32x4096 32 [0] iota_S32x4096_d0_w32
/-- The chosen code of each point of the block. -/
def code (x : Vec F S1x32x128x32 .f32) (e : Vec F S1024x32 .f32) : IVec S4096 32 :=
  k0_pay9 (scores x e) rows (group x e) (groups x e)
/-- The block of quantized points. -/
def outZ (x : Vec F S1x32x128x32 .f32) (e : Vec F S1024x32 .f32) : FVec F S1x32x128x32 .f32 :=
  k0_pay11 (k0_pay5 x) e (scores x e) rows (group x e) (groups x e)
/-- The block of chosen codes. -/
def outI (x : Vec F S1x32x128x32 .f32) (e : Vec F S1024x32 .f32) : IVec S1x32x128 32 :=
  k0_pay12 (scores x e) rows (group x e) (groups x e)
/-- The block's sum of squared differences. -/
def part (x : Vec F S1x32x128x32 .f32) (e : Vec F S1024x32 .f32) : FVec F S1x1 .f32 :=
  k0_pay13 (k0_pay5 x) e (scores x e) rows (group x e) (groups x e)

/-! ## The branch condition -/

/-- The bit saying a grid point is the first. -/
abbrev firstBit (i : grid0.Coords) : BitVec 1 :=
  Scalar.andi (Scalar.cmpi .eq (BitVec.ofNat 32 (i 0).val) 0#32) (Scalar.cmpi .eq (BitVec.ofNat 32 (i 1).val) 0#32)

/-- The body's branch is taken. -/
abbrev cond (i : grid0.Coords) : Prop := (Scalar.cmpi .ne (Scalar.extui (firstBit i)) 0#32) = 1#1

/-- The branch is taken at the first point only. -/
theorem cond_iff : ∀ t : Fin cfg0.N, cond (grid0.coords t) ↔ t.val % 16 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond, firstBit, e0, e1]
    word_cmp
   : ∀ t : Fin grid0.N, cond (grid0.coords t) ↔ t.val % 16 = 0)

/-- Widening a bit and comparing it with zero asks whether it is set. -/
theorem ne_extui : ∀ b : BitVec 1, (Scalar.cmpi .ne (Scalar.extui b : BitVec 32) 0#32) = 1#1 ↔ b = 1#1 := by
  decide

/-- Where the branch is taken the accumulator is set to the block's sum. -/
theorem pay1_first {i : grid0.Coords} (h : cond i) (a b : FVec F S1x1 .f32) : k0_pay1 (firstBit i) a b = a := by
  rw [(ne_extui _).mp h]; rfl

/-- Elsewhere the block's sum is added to it. -/
theorem pay1_later {i : grid0.Coords} (h : ¬cond i) (a b : FVec F S1x1 .f32) : k0_pay1 (firstBit i) a b = addf b a := by
  have h' : firstBit i ≠ 1#1 := fun e => h ((ne_extui _).mpr e)
  have : firstBit i = 0#1 := by
    generalize firstBit i = z at h'; revert z; decide
  rw [this]; rfl

/-- Two zero offsets are the zero function. -/
theorem zero2 : (![0, 0] : Fin 2 → ℕ) = fun _ => 0 := by decide
/-- Three zero offsets are the zero function. -/
theorem zero3 : (![0, 0, 0] : Fin 3 → ℕ) = fun _ => 0 := by decide
/-- Four zero offsets are the zero function. -/
theorem zero4 : (![0, 0, 0, 0] : Fin 4 → ℕ) = fun _ => 0 := by decide

set_option maxHeartbeats 1000000 in
/-- The body at the first point: from any scratch and any outputs it leaves the codebook's tables in the scratch and the
    block's results in the outputs. -/
theorem body_first (c : Dev nD) (i : grid0.Coords) (arg2 : Memref sig .tc .vmem S1x32x128x32 .f32) (harg2 : arg2.IsWhole) (arg3 : Memref sig .tc .vmem S1024x32 .f32) (harg3 : arg3.IsWhole) (arg4 : Memref sig .tc .vmem S1x32x128x32 .f32) (harg4 : arg4.IsWhole) (arg5 : Memref sig .tc .vmem S1x32x128 .i32) (harg5 : arg5.IsWhole) (arg6 : Memref sig .tc .vmem S1x1 .f32) (harg6 : arg6.IsWhole) (arg7 : Memref sig .tc .vmem S1024x32 .f32) (harg7 : arg7.IsWhole) (arg8 : Memref sig .tc .vmem S1024x1 .f32) (harg8 : arg8.IsWhole) (arg9 : Memref sig .tc .vmem S32x1024 .f32) (harg9 : arg9.IsWhole) (hc0 : cond i)
    (x0 : Vec F S1x32x128x32 .f32) (x1 : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare (outZ x0 x1) ∗ owns (c : Thread nD τ) arg5 fullShare (outI x0 x1) ∗ owns (c : Thread nD τ) arg6 fullShare (part x0 x1) ∗ owns (c : Thread nD τ) arg7 fullShare (k0_pay2 x1) ∗ owns (c : Thread nD τ) arg8 fullShare (k0_pay3 x1) ∗ owns (c : Thread nD τ) arg9 fullShare (k0_pay4 (F := F))) -∗ K ⟨⟩))
      ⊢ wp frame (wpE (defs₀ (F := F)) Variants.none c none) E (cc0__vq_kernel i arg2 harg2 arg3 harg3 arg4 harg4 arg5 harg5 arg6 harg6 arg7 harg7 arg8 harg8 arg9 harg9) K := by
  simp only [cc0__vq_kernel_eq_skeleton]; unfold cc0__vq_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, Hk⟩
  obtain rfl := harg2.eq_unread hf0; obtain rfl := harg3.eq_unread hf1
  sl_exec (disch := first | sl_exact hc0)
  sl_step
  iapply Hk
  have e2 := (View.readAt_full arg2.view (harg2.unread x0) inb_S1x32x128x32_S1x32x128x32_0_0_0_0).trans hf0
  have e3 := (View.readAt_full arg3.view (harg3.unread x1) inb_S1024x32_S1024x32_0_0).trans hf1
  have e7 : body_first.sl.v9 c arg3 harg3 arg7 x1 = k0_pay2 x1 := by
    delta body_first.sl.v9 body_first.sl.HS0_1
    exact (View.readCov_full ..).trans (congrArg k0_pay2 e3)
  have e8 : body_first.sl.v14 c arg3 harg3 arg8 x1 = k0_pay3 x1 := by
    delta body_first.sl.v14 body_first.sl.HS1_1
    exact (View.readCov_full ..).trans (congrArg k0_pay3 e3)
  have e9 : body_first.sl.v25 (F := F) c arg9 = k0_pay4 := by
    delta body_first.sl.v25 body_first.sl.HS2_1
    exact View.readCov_full ..
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full ..).trans ?_
    delta body_first.sl.r body_first.sl.r_1 body_first.sl.r_2 body_first.sl.r_3 body_first.sl.r_4 body_first.sl.v27
    rw [e2, e3, e7, e8, e9]; rfl
  isplitl [H3]
  · iexists _; isplitr
    swap; · iexact H3
    ipureintro
    refine (View.read_writes_full ..).trans ?_
    delta body_first.sl.r_2 body_first.sl.r_3 body_first.sl.r_4 body_first.sl.v27
    rw [e2, e7, e8, e9]; rfl
  isplitl [H4]
  · iexists _; isplitr
    swap; · iexact H4
    ipureintro
    refine (View.read_writes_full ..).trans ?_
    refine (pay1_first hc0 _ _).trans ?_
    delta body_first.sl.r_5 body_first.sl.r body_first.sl.r_1 body_first.sl.r_2 body_first.sl.r_3 body_first.sl.r_4 body_first.sl.v27
    rw [e2, e3, e7, e8, e9]; rfl
  isplitl [HS0]
  · iexists _; isplitr
    swap; · iexact HS0
    ipureintro
    exact (View.read_writes_full ..).trans (congrArg k0_pay2 e3)
  isplitl [HS1]
  · iexists _; isplitr
    swap; · iexact HS1
    ipureintro
    exact (View.read_writes_full ..).trans (congrArg k0_pay3 e3)
  iexists _; isplitr
  swap; · iexact HS2
  ipureintro
  exact View.read_writes_full ..

set_option maxHeartbeats 1000000 in
/-- The body at a later point: with the codebook's tables in the scratch it leaves the block's results in the outputs and
    adds the block's sum to the accumulator. -/
theorem body_later (c : Dev nD) (i : grid0.Coords) (arg2 : Memref sig .tc .vmem S1x32x128x32 .f32) (harg2 : arg2.IsWhole) (arg3 : Memref sig .tc .vmem S1024x32 .f32) (harg3 : arg3.IsWhole) (arg4 : Memref sig .tc .vmem S1x32x128x32 .f32) (harg4 : arg4.IsWhole) (arg5 : Memref sig .tc .vmem S1x32x128 .i32) (harg5 : arg5.IsWhole) (arg6 : Memref sig .tc .vmem S1x1 .f32) (harg6 : arg6.IsWhole) (arg7 : Memref sig .tc .vmem S1024x32 .f32) (harg7 : arg7.IsWhole) (arg8 : Memref sig .tc .vmem S1024x1 .f32) (harg8 : arg8.IsWhole) (arg9 : Memref sig .tc .vmem S32x1024 .f32) (harg9 : arg9.IsWhole) (hc0 : ¬cond i)
    (x0 : Vec F S1x32x128x32 .f32) (x1 : Vec F S1024x32 .f32) (xo : Vec F S1x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xo ∗ owns (c : Thread nD τ) arg7 fullShare (k0_pay2 x1) ∗ owns (c : Thread nD τ) arg8 fullShare (k0_pay3 x1) ∗ owns (c : Thread nD τ) arg9 fullShare (k0_pay4 (F := F))
        ∗ (iprop(owns (c : Thread nD τ) arg2 fullShare x0 ∗ owns (c : Thread nD τ) arg3 fullShare x1 ∗ owns (c : Thread nD τ) arg4 fullShare (outZ x0 x1) ∗ owns (c : Thread nD τ) arg5 fullShare (outI x0 x1) ∗ owns (c : Thread nD τ) arg6 fullShare (addf (k0_pay14 xo) (part x0 x1)) ∗ owns (c : Thread nD τ) arg7 fullShare (k0_pay2 x1) ∗ owns (c : Thread nD τ) arg8 fullShare (k0_pay3 x1) ∗ owns (c : Thread nD τ) arg9 fullShare (k0_pay4 (F := F))) -∗ K ⟨⟩))
      ⊢ wp frame (wpE (defs₀ (F := F)) Variants.none c none) E (cc0__vq_kernel i arg2 harg2 arg3 harg3 arg4 harg4 arg5 harg5 arg6 harg6 arg7 harg7 arg8 harg8 arg9 harg9) K := by
  simp only [cc0__vq_kernel_eq_skeleton]; unfold cc0__vq_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%fs0, %hs0, HS0⟩, ⟨%fs1, %hs1, HS1⟩, ⟨%fs2, %hs2, HS2⟩, Hk⟩
  obtain rfl := harg2.eq_unread hf0; obtain rfl := harg3.eq_unread hf1; obtain rfl := harg6.eq_unread hf4
  obtain rfl := harg7.eq_unread hs0; obtain rfl := harg8.eq_unread hs1; obtain rfl := harg9.eq_unread hs2
  sl_exec (disch := first | sl_exact hc0)
  sl_step
  iapply Hk
  have e2 := (View.readAt_full arg2.view (harg2.unread x0) inb_S1x32x128x32_S1x32x128x32_0_0_0_0).trans hf0
  have e3 := (View.readAt_full arg3.view (harg3.unread x1) inb_S1024x32_S1024x32_0_0).trans hf1
  have e7 := (View.readAt_full (Val := Elt F) arg7.view (harg7.unread (k0_pay2 x1)) inb_S1024x32_S1024x32_0_0).trans hs0
  have e8 := (View.readAt_full (Val := Elt F) arg8.view (harg8.unread (k0_pay3 x1)) inb_S1024x1_S1024x1_0_0).trans hs1
  have e9 := (View.readAt_full (Val := Elt F) arg9.view (harg9.unread (k0_pay4 (F := F))) inb_S32x1024_S32x1024_0_0).trans hs2
  have e6 := (View.readAt_full (Val := Elt F) arg6.view (harg6.unread xo) inb_S1x1_S1x1_0_0).trans hf4
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full ..).trans ?_
    delta body_later.sl.r body_later.sl.r_1 body_later.sl.r_2 body_later.sl.r_3 body_later.sl.r_4 body_later.sl.v27
    rw [e2, e3, e7, e8, e9]; rfl
  isplitl [H3]
  · iexists _; isplitr
    swap; · iexact H3
    ipureintro
    refine (View.read_writes_full ..).trans ?_
    delta body_later.sl.r_2 body_later.sl.r_3 body_later.sl.r_4 body_later.sl.v27
    rw [e2, e7, e8, e9]; rfl
  isplitl [H4]
  · iexists _; isplitr
    swap; · iexact H4
    ipureintro
    refine (View.read_writes_full ..).trans ?_
    refine (pay1_later hc0 _ _).trans ?_
    delta body_later.sl.r_6 body_later.sl.r_5 body_later.sl.r body_later.sl.r_1 body_later.sl.r_2 body_later.sl.r_3 body_later.sl.r_4 body_later.sl.v27
    rw [e2, e3, e7, e8, e9]
    exact congrArg (fun z => addf (k0_pay14 z) (part x0 x1)) e6
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Vq

end
-- ==== Proof.Vq.Launch.lean ====
/- The idealized kernel's whole run: what every grid point leaves, and the state it ends in. -/
module

public import proofs.«01_k».proof.Proof.Vq.Body
public import Idealize.ShloMosaic.Lib.Pipeline.ValueKit

@[expose] public section

set_option maxRecDepth 16384

noncomputable section

namespace Cert.KernelIdeal.Vq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs a point runs on -/

/-- The staged block of pixels. -/
abbrev st0 (t : Fin cfg0.N) : Memref sig .tc .vmem S1x32x128x32 .f32 := win0_0.stage (cfg0.slots t 0)
/-- The staged codebook. -/
abbrev st1 (t : Fin cfg0.N) : Memref sig .tc .vmem S1024x32 .f32 := win0_1.stage (cfg0.slots t 1)
/-- The staged block of quantised channels. -/
abbrev st2 (t : Fin cfg0.N) : Memref sig .tc .vmem S1x32x128x32 .f32 := win0_2.stage (cfg0.slots t 2)
/-- The staged block of entry numbers. -/
abbrev st3 (t : Fin cfg0.N) : Memref sig .tc .vmem S1x32x128 .i32 := win0_3.stage (cfg0.slots t 3)
/-- The staged loss. -/
abbrev st4 (t : Fin cfg0.N) : Memref sig .tc .vmem S1x1 .f32 := win0_4.stage (cfg0.slots t 4)
/-- The scratch holding the codebook times minus two. -/
abbrev sc0 : Memref sig .tc .vmem S1024x32 .f32 := Memref.whole cc0_scratch0
/-- The scratch holding the entries' squared lengths. -/
abbrev sc1 : Memref sig .tc .vmem S1024x1 .f32 := Memref.whole cc0_scratch1
/-- The scratch holding the band weights. -/
abbrev sc2 : Memref sig .tc .vmem S32x1024 .f32 := Memref.whole cc0_scratch2

/-- What the launch lends the region: the three scratch buffers at some contents, the generator register at some state. -/
theorem lent_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## What each point leaves -/

/-- The codebook, as launched. -/
def emb (c : Dev nD) : Vec F S1024x32 .f32 := m ((c : Thread nD τ).loc main_arg1)

/-- Every window's block index at a point. -/
theorem idx : ∀ t : Fin cfg0.N, win0_0.index t = ![t.val / 4, 0, t.val % 4, 0] ∧ win0_1.index t = ![0, 0]
    ∧ win0_2.index t = ![t.val / 4, 0, t.val % 4, 0] ∧ win0_3.index t = ![t.val, 0, 0] ∧ win0_4.index t = ![0, 0] :=
  (by decide +kernel : ∀ t : Fin grid0.N, _)

/-- The codebook's block is the codebook, at every point. -/
theorem iblk1 (c : Dev nD) (t : Fin cfg0.N) : iblk m c 1 t = emb m c := by
  unfold emb
  blk_ext! [iblk, V, idx t]

/-- The accumulated sum after point `n`. -/
def accAt (c : Dev nD) : (n : ℕ) → n < cfg0.N → FVec F S1x1 .f32
  | 0, h => part (iblk m c 0 ⟨0, h⟩) (emb m c)
  | n + 1, h => addf (k0_pay14 (accAt c n (Nat.lt_of_succ_lt h))) (part (iblk m c 0 ⟨n + 1, h⟩) (emb m c))

/-- The invariant between points: nothing is known of the scratch before the first point; later it holds the codebook's tables. -/
def inv (c : Dev nD) : ℕ → sProp 𝕄
  | 0 => Pipeline.ΦA spec0 c
  | _ + 1 => iprop(iprop(owns (c : Thread nD τ) sc0 fullShare (k0_pay2 (emb m c)) ∗ owns (c : Thread nD τ) sc1 fullShare (k0_pay3 (emb m c)) ∗ owns (c : Thread nD τ) sc2 fullShare (k0_pay4 (F := F))) ∗ (∃ r, prngReg c r))

/-- After the first point, the three scratch buffers hold what that point stored. -/
theorem inv_pos (c : Dev nD) (n : ℕ) (h : n ≠ 0) : inv m c n = iprop(iprop(owns (c : Thread nD τ) sc0 fullShare (k0_pay2 (emb m c)) ∗ owns (c : Thread nD τ) sc1 fullShare (k0_pay3 (emb m c)) ∗ owns (c : Thread nD τ) sc2 fullShare (k0_pay4 (F := F))) ∗ (∃ r, prngReg c r)) := by
  cases n with
  | zero => exact absurd rfl h
  | succ n => rfl

/-- The region's proof data: the arrays as the region finds them, and what each point's body leaves in every window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outZ (iblk m c 0 t) (emb m c)
    | ⟨3, _⟩ => outI (iblk m c 0 t) (emb m c)
    | ⟨4, _⟩ => accAt m c t.val t.isLt
  Φ t := inv m c t.val
  q _ := fullShare
  owed _ := 0

/-- Each window's array starts with what the host left in it. -/
theorem A_eq (c : Dev nD) (w : Fin cfg0.W) : (dats m 0 c).A w = V m c (Pipeline.arrRef spec0 w) := by
  dsimp only [dats]

/-- A point leaves its block of pixels as it was. -/
theorem after0 (c : Dev nD) (t : Fin cfg0.N) : (dats m 0 c).after 0 t = iblk m c 0 t := by dsimp only [dats]
/-- A point leaves the codebook as it was. -/
theorem after1 (c : Dev nD) (t : Fin cfg0.N) : (dats m 0 c).after 1 t = iblk m c 1 t := by dsimp only [dats]
/-- A point leaves its block's quantised channels. -/
theorem after2 (c : Dev nD) (t : Fin cfg0.N) : (dats m 0 c).after 2 t = outZ (iblk m c 0 t) (emb m c) := by dsimp only [dats]
/-- A point leaves its block's entry numbers. -/
theorem after3 (c : Dev nD) (t : Fin cfg0.N) : (dats m 0 c).after 3 t = outI (iblk m c 0 t) (emb m c) := by dsimp only [dats]
/-- A point leaves the loss accumulated so far. -/
theorem after4 (c : Dev nD) (t : Fin cfg0.N) : (dats m 0 c).after 4 t = accAt m c t.val t.isLt := by dsimp only [dats]

/-- A point finds its block of pixels. -/
theorem before0 (c : Dev nD) (t : Fin cfg0.N) (d) : (dats m 0 c).before 0 t d = iblk m c 0 t :=
  before0_0_of m (dats m 0 c) (A_eq m c 0) (after0 m c) t d
/-- A point finds the codebook. -/
theorem before1 (c : Dev nD) (t : Fin cfg0.N) (d) : (dats m 0 c).before 1 t d = iblk m c 1 t :=
  before0_1_of m (dats m 0 c) (A_eq m c 1) (after1 m c) t d

/-- After the first point the accumulator's buffer holds what the point before left. -/
theorem before4 (c : Dev nD) (t : Fin cfg0.N) (h0 : t.val ≠ 0) (d) :
    (dats m 0 c).before 4 t d = accAt m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-- After a later point, the loss is the one before plus the block's part. -/
theorem accAt_pos (c : Dev nD) (n : ℕ) (h : n < cfg0.N) (h0 : n ≠ 0) :
    accAt m c n h = addf (k0_pay14 (accAt m c (n - 1) (Nat.lt_of_le_of_lt (Nat.sub_le _ _) h))) (part (iblk m c 0 ⟨n, h⟩) (emb m c)) := by
  cases n with
  | zero => exact absurd rfl h0
  | succ n => rfl

/-- After the first point, the loss is the first block's part. -/
theorem accAt_zero (c : Dev nD) (n : ℕ) (h : n < cfg0.N) (h0 : n = 0) :
    accAt m c n h = part (iblk m c 0 ⟨n, h⟩) (emb m c) := by
  subst h0; rfl

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t))

/-- The invariant before a point. -/
theorem inv_castSucc (c : Dev nD) (t : Fin cfg0.N) : (dats m 0 c).Φ t.castSucc = inv m c t.val := by
  dsimp only [dats]; rfl

/-- The invariant after a point. -/
theorem inv_succ (c : Dev nD) (t : Fin cfg0.N) : (dats m 0 c).Φ t.succ = inv m c (t.val + 1) := by
  dsimp only [dats]; rfl

set_option maxHeartbeats 1600000 in
/-- The body at any point takes what it is called with to what it returns. -/
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    after0, after1, after2, after3, after4, inv_castSucc, inv_succ, inv_pos m c (t.val + 1) (by omega), iblk1]
  have hN : t.val < 16 := lt_of_lt_of_eq t.isLt (show cfg0.N = 16 from N_0)
  by_cases hz : t.val = 0
  · rw [accAt_zero m c _ _ hz, show inv m c t.val = Pipeline.ΦA spec0 c by rw [hz]; rfl, lent_eq]
    iintro ⟨⟨⟨HS0, HS1, HS2⟩, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ _ _ _ _ ((cond_iff t).mpr (by omega)) (iblk m c 0 t) (emb m c) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4
  · simp only [before4 m c t hz]
    rw [accAt_pos m c _ _ hz, inv_pos m c _ hz]
    iintro ⟨⟨⟨HS0, HS1, HS2⟩, Hg⟩, Ho, ⟨%d0, H0⟩, ⟨%d1, H1⟩, ⟨%d2, H2⟩, ⟨%d3, H3⟩, ⟨%d4, H4⟩⟩
    iapply (body_later c (grid0.coords t) _ _ _ _ _ _ _ _ _ _ _ _ _ _ _ _ (fun h => hz (by have := (cond_iff t).mp h; omega)) (iblk m c 0 t) (emb m c) _ Set.univ _)
    isplitl [H0]; · iexact H0
    isplitl [H1]; · iexact H1
    isplitl [H2]; · iexists _; iexact H2
    isplitl [H3]; · iexists _; iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4

/-- At every point, the body takes what the point finds to what it leaves. -/
theorem body_row (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-- The launch starts in the invariant. -/
theorem enter (c : Dev nD) : Pipeline.ΦA spec0 c ⊢ (dats m 0 c).Φ 0 := by
  rw [show (dats m 0 c).Φ 0 = Pipeline.ΦA spec0 c from rfl]

/-- The invariant after the last point is where the launch ends. -/
theorem leave (c : Dev nD) : (dats m 0 c).Φ (Fin.last cfg0.N) ⊢ Pipeline.ΦA spec0 c := by
  rw [show (dats m 0 c).Φ (Fin.last cfg0.N) = inv m c cfg0.N from rfl, inv_pos m c _ (by have : cfg0.N = 16 := N_0; omega), lent_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run -/

set_option maxHeartbeats 800000 in
set_option backward.isDefEq.respectTransparency.types false in
/-- Every fair execution of the program ends, with each array of the region at what the points wrote back, every other
    buffer at what the lines after the region leave, and every semaphore at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The arguments end unchanged and the semaphores at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Vq

end
-- ==== Proof.Vq.Transfer.lean ====
/- The kernel and its idealized form are the same program, so the second's frame is the first's. -/
module

public import proofs.«01_k».proof.Kernel
public import proofs.«01_k».proof.Proof.Gen.Kernel
public import proofs.«01_k».proof.Proof.Vq.Launch

@[expose] public section

noncomputable section

namespace Cert.Kernel.Vq

open Cert.Kernel
open Idealize.ShloMosaic Idealize.ShloMosaic.TcCoe Idealize.SL.Sem

variable {F : FTy → Type} [FloatOps F]

/-- The two forms run the same program. -/
theorem main_eq : main (F := F) = Cert.KernelIdeal.main (F := F) := rfl

/-- The two forms have the same kernel bodies. -/
theorem bodies_eq : defs₀ (F := F) = Cert.KernelIdeal.defs₀ (F := F) :=
  congrArg Defs.onTc (funext fun ℓ => funext fun a => match ℓ, a with
    | 0, (_, _) => rfl
    | ⟨_ + 1, h⟩, _ => absurd h (by omega))

/-- The two forms have the same tables of bodies, regions and pipelines. -/
theorem defs_eq : defs (F := F) = Cert.KernelIdeal.defs (F := F) :=
  congrArg (Pipeline.defs pcfgs) bodies_eq

/-- The kernel's arguments end unchanged and its semaphores at zero. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq, main_eq]
  exact Cert.KernelIdeal.Vq.frame_all m ρ

end Cert.Kernel.Vq

end
-- ==== Proof.Vq.RefRun.lean ====
/- The reference's run: the value each of its three results ends with, as a function of the two arguments. -/
module

public import proofs.«01_k».proof.Proof.Gen.ReferenceIdeal
public import Idealize.ShloMosaic.Lib.StableHlo.Run
public import Idealize.ShloMosaic.Lib.StableHlo.RunRead
public import Idealize.ShloMosaic.Lib.Quiescent

@[expose] public section

set_option maxRecDepth 16384

noncomputable section

namespace Cert.ReferenceIdeal.Vq

open Cert.ReferenceIdeal Cert.ReferenceIdeal.Gen
open Idealize.ShloMosaic Idealize.ShloMosaic.TcCoe Idealize.ShloMosaic.StableHlo Idealize.SL.Sem

variable {F : FTy → Type} [FloatOps F]

/-! ## The reference's values -/

/-- The tokens: one row of 32 channels each. -/
def flat (z : FVec F S4x32x16x32x32 .f32) : FVec F S65536x32 .f32 :=
  shapeCast S65536x32 (transpose S4x16x32x32x32 [0, 2, 3, 4, 1] z transposes_S4x32x16x32x32_S4x16x32x32x32_0_2_3_4_1)
    shapeCasts_S4x16x32x32x32_S65536x32

/-- The score of a token (row) against a codebook entry (column): |x|² + |e|² − 2·⟨x, e⟩. -/
def dist (x : FVec F S65536x32 .f32) (e : FVec F S1024x32 .f32) : FVec F S65536x1024 .f32 :=
  subf
    (addf
      (broadcastInDim S65536x1024 ![0, 1] bcast_S65536x1_S65536x1024_0_1
        (broadcastInDim S65536x1 ![0] bcast_S65536_S65536x1_0
          (Host.reduceAdd (mulf x x) (constant S_ .f32 0x00000000#32) reducesTo_S65536x32_S65536_d1 h_S_)))
      (broadcastInDim S65536x1024 ![0, 1] bcast_S1x1024_S65536x1024_0_1
        (broadcastInDim S1x1024 ![1] bcast_S1024_S1x1024_1
          (Host.reduceAdd (mulf e e) (constant S_ .f32 0x00000000#32) reducesTo_S1024x32_S1024_d1 h_S_))))
    (mulf (broadcastInDim S65536x1024 ![] bcast_S_S65536x1024 (constant S_ .f32 0x40000000#32))
      (Host.dotGeneral dot_S65536x32_S32x1024_S65536x1024_1_0_0_1_n_n none x
        (transpose S32x1024 [1, 0] e transposes_S1024x32_S32x1024_1_0)))

/-- Each token's least column, the first of equals. -/
def best (d : FVec F S65536x1024 .f32) : IVec S65536 32 := fun j =>
  (Host.argReduce reducer_argmin_f32_i32 d (iotaInDim S65536x1024 32 1) (constant S_ .f32 0x7F800000#32)
    (constantI S_ 32 0#32) reducesTo_S65536x1024_S65536_d1 h_S_ j).2

/-- The indices a lookup reads at: a negative one counts from the end. -/
def wrapped (b : IVec S65536 32) : IVec S65536x1 32 :=
  broadcastInDim S65536x1 ![0] bcast_S65536_S65536x1_0
    (select (cmpi .slt b (broadcastInDim S65536 ![] bcast_S_S65536 (constantI S_ 32 0#32)))
      (addi b (broadcastInDim S65536 ![] bcast_S_S65536 (constantI S_ 32 1024#32))) b)

/-- Whether each lookup is in range. -/
def inRange (w : IVec S65536x1 32) : IVec S65536 1 :=
  Host.reduce IntOp.andi
    (andi (cmpi .sge w (broadcastInDim S65536x1 ![] bcast_S_S65536x1 (constantI S_ 32 0#32)))
      (cmpi .sle w (broadcastInDim S65536x1 ![0, 1] bcast_S1x1_S65536x1_0_1
        (broadcastInDim S1x1 ![1] bcast_S1_S1x1_1 (constantI S1 32 1023#32)))))
    (constantI S_ 1 1#1) reducesTo_S65536x1_S65536_d1 h_S_

/-- The looked-up codebook rows. -/
def taken (e : FVec F S1024x32 .f32) (b : IVec S65536 32) : FVec F S65536x32 .f32 :=
  select (broadcastInDim S65536x32 ![0] bcast_S65536_S65536x32_0 (inRange (wrapped b)))
    (Host.gather gather_S1024x32_S65536x1_S65536x32_1_0_n_n_0_1_132 e (wrapped b))
    (broadcastInDim S65536x32 ![] bcast_S_S65536x32 (constant S_ .f32 0x7FC00000#32))

/-- The mean of the squared differences. -/
def mean (q x : FVec F S65536x32 .f32) : FVec F S_ .f32 :=
  Host.divf (Host.reduceAdd (mulf (subf q x) (subf q x)) (constant S_ .f32 0x00000000#32) reducesTo_S65536x32_S_d0_1 h_S_)
    (constant S_ .f32 0x4A000000#32)

/-- The loss: the mean plus a quarter of it. -/
def lossOf (q x : FVec F S65536x32 .f32) : FVec F S_ .f32 :=
  addf (mean q x) (mulf (constant S_ .f32 0x3E800000#32) (mean q x))

/-- The quantised tokens, back in the input's layout. -/
def laidOut (q x : FVec F S65536x32 .f32) : FVec F S4x32x16x32x32 .f32 :=
  transpose S4x32x16x32x32 [0, 4, 1, 2, 3]
    (shapeCast S4x16x32x32x32 (addf x (subf q x)) shapeCasts_S65536x32_S4x16x32x32x32)
    transposes_S4x16x32x32x32_S4x32x16x32x32_0_4_1_2_3

/-- The reference's indices. -/
def refI (z : FVec F S4x32x16x32x32 .f32) (e : FVec F S1024x32 .f32) : IVec S65536 32 := best (dist (flat z) e)

/-- The reference's loss. -/
def refL (z : FVec F S4x32x16x32x32 .f32) (e : FVec F S1024x32 .f32) : FVec F S_ .f32 :=
  lossOf (taken e (refI z e)) (flat z)

/-- The reference's quantised array. -/
def refQ (z : FVec F S4x32x16x32x32 .f32) (e : FVec F S1024x32 .f32) : FVec F S4x32x16x32x32 .f32 :=
  laidOut (taken e (refI z e)) (flat z)

/-! ## The run -/

/-- The program's operations, in order. -/
abbrev ops : List (HloOp τ sig (Elt F)) :=
  [ unary main_arg0 main_v0 ((transpose S4x16x32x32x32 [0, 2, 3, 4, 1] · transposes_S4x32x16x32x32_S4x16x32x32x32_0_2_3_4_1)),
    reshape main_v0 main_v1 (rfl : (.f32 : EltTy) = .f32) shapeCasts_S4x16x32x32x32_S65536x32,
    binary main_v1 main_v1 main_v2 mulf,
    nullary main_cst (constant S_ .f32 0x00000000#32),
    binary main_v2 main_cst main_v3 ((fun x v => Host.reduceAdd x v reducesTo_S65536x32_S65536_d1 h_S_)),
    unary main_v3 main_v4 (broadcastInDim S65536x1 ![0] bcast_S65536_S65536x1_0),
    binary main_arg1 main_arg1 main_v5 mulf,
    nullary main_cst_0 (constant S_ .f32 0x00000000#32),
    binary main_v5 main_cst_0 main_v6 ((fun x v => Host.reduceAdd x v reducesTo_S1024x32_S1024_d1 h_S_)),
    unary main_v6 main_v7 (broadcastInDim S1x1024 ![1] bcast_S1024_S1x1024_1),
    unary main_arg1 main_v8 ((transpose S32x1024 [1, 0] · transposes_S1024x32_S32x1024_1_0)),
    binary main_v1 main_v8 main_v9 ((fun l r => Host.dotGeneral dot_S65536x32_S32x1024_S65536x1024_1_0_0_1_n_n none l r)),
    unary main_v4 main_v10 (broadcastInDim S65536x1024 ![0, 1] bcast_S65536x1_S65536x1024_0_1),
    unary main_v7 main_v11 (broadcastInDim S65536x1024 ![0, 1] bcast_S1x1024_S65536x1024_0_1),
    binary main_v10 main_v11 main_v12 addf,
    nullary main_cst_1 (constant S_ .f32 0x40000000#32),
    unary main_cst_1 main_v13 (broadcastInDim S65536x1024 ![] bcast_S_S65536x1024),
    binary main_v13 main_v9 main_v14 mulf,
    binary main_v12 main_v14 main_v15 subf,
    nullary main_call0_v0 (iotaInDim S65536x1024 32 1),
    nullary main_call0_cst (constant S_ .f32 0x7F800000#32),
    nullary main_call0_c (constantI S_ 32 0#32),
    quaternary main_v15 main_call0_v0 main_call0_cst main_call0_c main_call0_v1_0 (fun x y u v j => (Host.argReduce reducer_argmin_f32_i32 x y u v reducesTo_S65536x1024_S65536_d1 h_S_ j).1),
    quaternary main_v15 main_call0_v0 main_call0_cst main_call0_c main_v16 (fun x y u v j => (Host.argReduce reducer_argmin_f32_i32 x y u v reducesTo_S65536x1024_S65536_d1 h_S_ j).2),
    nullary main_call1_c (constantI S_ 32 0#32),
    unary main_call1_c main_call1_v0 (broadcastInDim S65536 ![] bcast_S_S65536),
    binary main_v16 main_call1_v0 main_call1_v1 (cmpi .slt),
    nullary main_call1_c_0 (constantI S_ 32 1024#32),
    unary main_call1_c_0 main_call1_v2 (broadcastInDim S65536 ![] bcast_S_S65536),
    binary main_v16 main_call1_v2 main_call1_v3 addi,
    ternary main_call1_v1 main_call1_v3 main_v16 main_call1_v4 select,
    unary main_call1_v4 main_call1_v5 (broadcastInDim S65536x1 ![0] bcast_S65536_S65536x1_0),
    nullary main_call1_c_1 (constantI S1 32 1023#32),
    nullary main_call1_c_2 (constantI S_ 32 0#32),
    unary main_call1_c_2 main_call1_v6 (broadcastInDim S65536x1 ![] bcast_S_S65536x1),
    binary main_call1_v5 main_call1_v6 main_call1_v7 (cmpi .sge),
    unary main_call1_c_1 main_call1_v8 (broadcastInDim S1x1 ![1] bcast_S1_S1x1_1),
    unary main_call1_v8 main_call1_v9 (broadcastInDim S65536x1 ![0, 1] bcast_S1x1_S65536x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S65536x1_S65536_d1 h_S_),
    binary main_arg1 main_call1_v5 main_call1_v13 (fun x i => Host.gather gather_S1024x32_S65536x1_S65536x32_1_0_n_n_0_1_132 x i),
    unary main_call1_v12 main_call1_v14 (broadcastInDim S65536x32 ![0] bcast_S65536_S65536x32_0),
    nullary main_call1_cst (constant S_ .f32 0x7FC00000#32),
    unary main_call1_cst main_call1_v15 (broadcastInDim S65536x32 ![] bcast_S_S65536x32),
    ternary main_call1_v14 main_call1_v13 main_call1_v15 main_v17 select,
    binary main_v17 main_v1 main_v18 subf,
    binary main_v18 main_v18 main_v19 mulf,
    nullary main_cst_2 (constant S_ .f32 0x00000000#32),
    binary main_v19 main_cst_2 main_v20 ((fun x v => Host.reduceAdd x v reducesTo_S65536x32_S_d0_1 h_S_)),
    nullary main_cst_3 (constant S_ .f32 0x4A000000#32),
    binary main_v20 main_cst_3 main_v21 (Host.divf),
    binary main_v17 main_v1 main_v22 subf,
    binary main_v22 main_v22 main_v23 mulf,
    nullary main_cst_4 (constant S_ .f32 0x00000000#32),
    binary main_v23 main_cst_4 main_v24 ((fun x v => Host.reduceAdd x v reducesTo_S65536x32_S_d0_1 h_S_)),
    nullary main_cst_5 (constant S_ .f32 0x4A000000#32),
    binary main_v24 main_cst_5 main_v25 (Host.divf),
    nullary main_cst_6 (constant S_ .f32 0x3E800000#32),
    binary main_cst_6 main_v25 main_v26 mulf,
    binary main_v21 main_v26 main_v27 addf,
    binary main_v17 main_v1 main_v28 subf,
    binary main_v1 main_v28 main_v29 addf,
    reshape main_v29 main_v30 (rfl : (.f32 : EltTy) = .f32) shapeCasts_S65536x32_S4x16x32x32x32,
    unary main_v30 main_v31 ((transpose S4x32x16x32x32 [0, 4, 1, 2, 3] · transposes_S4x16x32x32x32_S4x32x16x32x32_0_4_1_2_3)) ]

/-- One operation before a straight line. -/
theorem line_cons {op : HloOp τ sig (Elt F)} {k : Prog (TpuEff nD τ sig (Elt F) (Pipeline.Sig Λ₀ (Fin 0) fun p => (pcfgs (F := F) p).Adm) .tc) PUnit}
    {l : List (HloOp τ sig (Elt F))} (h : k = seq l) :
    ((hlo rfl op fun _ => .ret (⟨⟩ : PUnit)) >>= fun _ => k) = seq (op :: l) := by
  rw [h]; rfl

/-- The range check's reduction, at the buffers it names. -/
theorem line_range (f : (⟨S65536x1, .i1⟩ : BufTy).Contents (Elt F) → (⟨S_, .i1⟩ : BufTy).Contents (Elt F) → (⟨S65536, .i1⟩ : BufTy).Contents (Elt F)) :
    (TRef.binary (.of main_call1_v11 : TRef sig ⟨S65536x1, .i1⟩) (.of main_call1_c_3 : TRef sig ⟨S_, .i1⟩)
      (.of main_call1_v12 : TRef sig ⟨S65536, .i1⟩) f : HloOp τ sig (Elt F))
      = binary main_call1_v11 main_call1_c_3 main_call1_v12 f := rfl

/-- The program is that straight line. -/
theorem main_eq (c : Dev nD) : main (F := F) c = seq ops := by
  unfold main fn_argmin.body fn_take.body fn_where.body
  simp only [Monad.toBind, bind_assoc, pure_bind]
  iterate 41 refine line_cons ?_
  rw [line_range]
  repeat refine line_cons ?_
  rfl

/-- The line leaves the indices at the third result. -/
theorem I_eq (V : Valuation τ sig (Elt F)) :
    after ops V (main_v16 : DevRef τ sig) = refI (V (main_arg0 : DevRef τ sig)) (V (main_arg1 : DevRef τ sig)) := by
  after_reads_simp
  rfl

/-- The line leaves the loss at the second result. -/
theorem L_eq (V : Valuation τ sig (Elt F)) :
    after ops V (main_v27 : DevRef τ sig) = refL (V (main_arg0 : DevRef τ sig)) (V (main_arg1 : DevRef τ sig)) := by
  after_reads_simp
  rfl

/-- The line leaves the quantised array at the first result. -/
theorem Q_eq (V : Valuation τ sig (Elt F)) :
    after ops V (main_v31 : DevRef τ sig) = refQ (V (main_arg0 : DevRef τ sig)) (V (main_arg1 : DevRef τ sig)) := by
  after_reads_simp
  rfl

/-- The line leaves the first argument as it was. -/
theorem z_eq (V : Valuation τ sig (Elt F)) :
    after ops V (main_arg0 : DevRef τ sig) = V (main_arg0 : DevRef τ sig) := by
  after_reads_simp

/-- The line leaves the second argument as it was. -/
theorem e_eq (V : Valuation τ sig (Elt F)) :
    after ops V (main_arg1 : DevRef τ sig) = V (main_arg1 : DevRef τ sig) := by
  after_reads_simp

/-- No buffer is scoped. -/
theorem refs_none : (Finset.univ.filter fun b : Ref sig .tc => b.isScoped) = ∅ := by decide +kernel

/-- No semaphore is scoped. -/
theorem sems_none : (Finset.univ.filter fun sm : SemLoc sig => sm.isScoped .tc) = ∅ := by decide +kernel

/-- Every operation touches the program's own buffers only. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., reshape_bufs_sub .., unary_bufs_sub ..⟩

/-- From any memory with zero counters, every execution of the reference ends with its three results at the values
    above, its arguments as they were and every counter at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v31)
            = refQ (m ((c.tc : Thread nD τ).loc main_arg0)) (m ((c.tc : Thread nD τ).loc main_arg1))
        ∧ r.2.mem ((c.tc : Thread nD τ).loc main_v27)
            = refL (m ((c.tc : Thread nD τ).loc main_arg0)) (m ((c.tc : Thread nD τ).loc main_arg1))
        ∧ r.2.mem ((c.tc : Thread nD τ).loc main_v16)
            = refI (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v31).trans (Q_eq _), (h c main_v27).trans (L_eq _),
      (h c main_v16).trans (I_eq _), (h c main_arg0).trans (z_eq _), (h c main_arg1).trans (e_eq _)⟩,
      sem_eq_zero_of_no_sems rfl r.2⟩)
    (run_seq refs_none sems_none defs main (fun _ => ops) main_eq (fun _ => ops_sub) m ρ)

end Cert.ReferenceIdeal.Vq

end
-- ==== Proof.Vq.Finite.lean ====
/- What the precondition says at the extended reals: every element of both arguments is a real number. -/
module

public import proofs.«01_k».proof.Defs
public import proofs.«01_k».proof.Proof.Gen.Pre_finite
public import Idealize.ShloMosaic.Lib.ReduceAll
public import Idealize.ShloMosaic.Lib.Pointwise

@[expose] public section

set_option maxRecDepth 16384

noncomputable section

namespace Cert.Pre_finite.Vq

open Cert.Pre_finite Cert.Pre_finite.Gen
open Idealize.ShloMosaic Idealize.ShloMosaic.Tactic

/-- A value whose absolute value is below plus infinity is a real. -/
theorem real_of_abs (v : EReal) (h : FloatOps.cmpf (F := Ideal) (φ := .f32) .olt (max v (-v) : EReal) (Ideal.ofBits .f32 0x7F800000#32) = 1#1) :
    v = ((v.toReal : ℝ) : EReal) := by
  have htop : Ideal.ofBits .f32 0x7F800000#32 = ⊤ := by simp [Ideal.ofBits, Ideal.ieee]
  rw [htop, Ideal.cmpf_def, Ideal.cmp] at h
  have hlt : max v (-v) < ⊤ := by
    by_contra hn
    have : BitVec.ofBool (decide (max v (-v) < (⊤ : EReal))) = 1#1 := h
    rw [decide_eq_false hn] at this
    exact absurd this (by decide)
  refine (EReal.coe_toReal ?_ ?_).symm
  · rintro rfl
    simp at hlt
  · rintro rfl
    simp at hlt

/-- An array all of whose absolute values are below plus infinity is real throughout. -/
theorem real_all {s : Shape} {axes : List (Fin s.rank)} (x : FVec Ideal s .f32) (hb) (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : x i = (((show EReal from x i).toReal : ℝ) : EReal) := by
  have hs : Subsingleton S_.Idx := ⟨fun _ _ => funext fun k => k.elim0⟩
  have hi : cmpf .olt (Host.absf x) (broadcastInDim s ![] hb (constant S_ .f32 0x7F800000#32)) i = 1#1 :=
    Host.reduce_andi_all _ _ hr h_S_ j h i
  exact real_of_abs (x i) hi

/-- The precondition makes both arguments real throughout. -/
theorem real_of_pre (z : FVec Ideal S4x32x16x32x32 .f32) (e : FVec Ideal S1024x32 .f32)
    (h1 : (fn z e).1 = fun _ => 1#1) (h2 : (fn z e).2 = fun _ => 1#1) :
    (∀ i, z i = (((show EReal from z i).toReal : ℝ) : EReal)) ∧ ∀ i, e i = (((show EReal from e i).toReal : ℝ) : EReal) := by
  unfold fn at h1 h2
  dsimp only at h1 h2
  exact ⟨real_all z _ _ _ (congrFun h1 (Shape.Idx.first h_S_)), real_all e _ _ _ (congrFun h2 (Shape.Idx.first h_S_))⟩

end Cert.Pre_finite.Vq

end
-- ==== Proof.Vq.Arrays.lean ====
/- What the idealized kernel's three results hold when it ends. -/
module

public import proofs.«01_k».proof.Proof.Vq.Launch
public import Idealize.ShloMosaic.Lib.StableHlo.RunRead

@[expose] public section

set_option maxRecDepth 16384

noncomputable section

namespace Cert.KernelIdeal.Vq

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The grid point with a given number. -/
def point (n : ℕ) (h : n < 16) : Fin cfg0.N := ⟨n, lt_of_lt_of_eq h (show 16 = cfg0.N from N_0.symm)⟩

/-- The quantised array, in the launch's layout: each block as its point left it. -/
def arrZ (c : Dev nD) : FVec F S4x32x512x32 .f32 := fun i =>
  outZ (iblk m c 0 (point (4 * (i 0).val + (i 2).val / 128) (by
      have h0 : (i 0).val < 4 := (i 0).isLt
      have h2 : (i 2).val < 512 := (i 2).isLt
      omega))) (emb m c) (ix4 0 (i 1) ⟨(i 2).val % 128, Nat.mod_lt _ (by norm_num)⟩ (i 3))

/-- The indices, in the launch's layout: each block as its point left it. -/
def arrI (c : Dev nD) : IVec S16x32x128 32 := fun i =>
  outI (iblk m c 0 (point (i 0).val (i 0).isLt)) (emb m c) (ix3 0 (i 1) (i 2))

/-- The quantised array after the run. -/
theorem arrAt2 (c : Dev nD) : (dats m 0 c).arrAt 2 cfg0.N = arrZ m c := by
  refine (dats m 0 c).arrAt_eq_of_covers 2 _ (by decide +kernel) fun t hf y => ?_
  blk_simp
  rw [after2]
  unfold arrZ
  have key : ∀ (t' : Fin cfg0.N) (y' : S1x32x128x32.Idx), t' = t → y' = y →
      outZ (iblk m c 0 t) (emb m c) y = outZ (iblk m c 0 t') (emb m c) y' := by
    rintro _ _ rfl rfl; rfl
  have y0 : (y 0).val < 1 := (y 0).isLt
  have y2 : (y 2).val < 128 := (y 2).isLt
  have e0 : ((win0_2.blk t).view.emb y 0 : ℕ) = t.val / 4 * 1 + (y 0).val := by blk_simp [(idx t).2.2.1]
  have e1 : ((win0_2.blk t).view.emb y 1 : ℕ) = 0 * 32 + (y 1).val := by blk_simp [(idx t).2.2.1]
  have e2 : ((win0_2.blk t).view.emb y 2 : ℕ) = t.val % 4 * 128 + (y 2).val := by blk_simp [(idx t).2.2.1]
  have e3 : ((win0_2.blk t).view.emb y 3 : ℕ) = 0 * 32 + (y 3).val := by blk_simp [(idx t).2.2.1]
  refine key _ _ (Fin.ext ?_) (funext fun a => Fin.ext ?_)
  · show 4 * ((win0_2.blk t).view.emb y 0 : ℕ) + ((win0_2.blk t).view.emb y 2 : ℕ) / 128 = t.val
    omega
  · fin_cases a
    · show 0 = (y 0).val
      omega
    · show ((win0_2.blk t).view.emb y 1 : ℕ) = (y 1).val
      omega
    · show ((win0_2.blk t).view.emb y 2 : ℕ) % 128 = (y 2).val
      omega
    · show ((win0_2.blk t).view.emb y 3 : ℕ) = (y 3).val
      omega

/-- The index array after the run. -/
theorem arrAt3 (c : Dev nD) : (dats m 0 c).arrAt 3 cfg0.N = arrI m c := by
  refine (dats m 0 c).arrAt_eq_of_covers 3 _ (by decide +kernel) fun t hf y => ?_
  blk_simp
  rw [after3]
  unfold arrI
  have key : ∀ (t' : Fin cfg0.N) (y' : S1x32x128.Idx), t' = t → y' = y →
      outI (iblk m c 0 t) (emb m c) y = outI (iblk m c 0 t') (emb m c) y' := by
    rintro _ _ rfl rfl; rfl
  have y0 : (y 0).val < 1 := (y 0).isLt
  have e0 : ((win0_3.blk t).view.emb y 0 : ℕ) = t.val * 1 + (y 0).val := by blk_simp [(idx t).2.2.2.1]
  have e1 : ((win0_3.blk t).view.emb y 1 : ℕ) = 0 * 32 + (y 1).val := by blk_simp [(idx t).2.2.2.1]
  have e2 : ((win0_3.blk t).view.emb y 2 : ℕ) = 0 * 128 + (y 2).val := by blk_simp [(idx t).2.2.2.1]
  refine key _ _ (Fin.ext ?_) (funext fun a => Fin.ext ?_)
  · show ((win0_3.blk t).view.emb y 0 : ℕ) = t.val
    omega
  · fin_cases a
    · show 0 = (y 0).val
      omega
    · show ((win0_3.blk t).view.emb y 1 : ℕ) = (y 1).val
      omega
    · show ((win0_3.blk t).view.emb y 2 : ℕ) = (y 2).val
      omega

/-- The accumulator after the run. -/
theorem arrAt4 (c : Dev nD) : (dats m 0 c).arrAt 4 cfg0.N = accAt m c 15 (by decide +kernel) := by
  refine (dats m 0 c).arrAt_eq_of_after_last 4 t0_15 (by decide +kernel) _ fun j => ?_
  blk_simp
  rw [after4]; rfl

/-- The loss from the accumulated sum. -/
def lossK (a : FVec F S1x1 .f32) : FVec F S_ .f32 :=
  Host.divf (mulf (constant S_ .f32 0x3FA00000#32) (shapeCast S_ a shapeCasts_S1x1_S_)) (constant S_ .f32 0x4A000000#32)

/-- The contents the lines after the region start from. -/
abbrev exitV (c : Dev nD) : Valuation τ sig (Elt F) :=
  Pipeline.withArrays spec0 c (V0 m c) fun w => (dats m 0 c).arrAt w cfg0.N

/-- After the launch, the first output array holds every block's quantised channels. -/
theorem exit2 (c : Dev nD) : exitV m c (Proc.devRef .tc main_call0_v1_0) = arrZ m c :=
  (Pipeline.withArrays_arr spec0 launch0.win.arr_inj c (V0 m c) (fun w => (dats m 0 c).arrAt w cfg0.N) 2).trans (arrAt2 m c)

/-- After the launch, the second output array holds every block's entry numbers. -/
theorem exit3 (c : Dev nD) : exitV m c (Proc.devRef .tc main_call0_v1_1) = arrI m c :=
  (Pipeline.withArrays_arr spec0 launch0.win.arr_inj c (V0 m c) (fun w => (dats m 0 c).arrAt w cfg0.N) 3).trans (arrAt3 m c)

/-- After the launch, the third output array holds the loss accumulated over all points. -/
theorem exit4 (c : Dev nD) : exitV m c (Proc.devRef .tc main_call0_v1_2) = accAt m c 15 (by decide +kernel) :=
  (Pipeline.withArrays_arr spec0 launch0.win.arr_inj c (V0 m c) (fun w => (dats m 0 c).arrAt w cfg0.N) 4).trans (arrAt4 m c)

/-- The first result at the end. -/
theorem tailZ (c : Dev nD) : Pipeline.afterTail₀ cfgs (dats m) 0 (V0 m) [hostOps1] c main_v0_0
    = shapeCast S4x32x16x32x32 (arrZ m c) shapeCasts_S4x32x512x32_S4x32x16x32x32 := by
  rw [← exit2 m c]
  unfold Pipeline.afterTail₀
  after_reads_simp
  rfl

/-- The third result at the end. -/
theorem tailI (c : Dev nD) : Pipeline.afterTail₀ cfgs (dats m) 0 (V0 m) [hostOps1] c main_v0_2
    = shapeCast S65536 (arrI m c) shapeCasts_S16x32x128_S65536 := by
  rw [← exit3 m c]
  unfold Pipeline.afterTail₀
  after_reads_simp
  rfl

/-- The second result at the end. -/
theorem tailL (c : Dev nD) : Pipeline.afterTail₀ cfgs (dats m) 0 (V0 m) [hostOps1] c main_v0_1
    = lossK (accAt m c 15 (by decide +kernel)) := by
  rw [← exit4 m c]
  unfold Pipeline.afterTail₀
  after_reads_simp
  rfl

/-- From any memory with zero counters, every execution of the idealized kernel ends with its three results at the
    values above and its arguments as they were. -/
theorem run_ker : θ_run defs (onTc (τ := τ) (main (F := F))) ⟨m, fun _ => 0, ρ⟩ fun r => ∀ c : Dev nD,
      r.2.mem ((c.tc : Thread nD τ).loc main_v0_0)
          = shapeCast S4x32x16x32x32 (arrZ m c) shapeCasts_S4x32x512x32_S4x32x16x32x32
      ∧ r.2.mem ((c.tc : Thread nD τ).loc main_v0_1) = lossK (accAt m c 15 (by decide +kernel))
      ∧ r.2.mem ((c.tc : Thread nD τ).loc main_v0_2) = shapeCast S65536 (arrI m c) shapeCasts_S16x32x128_S65536
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h.1 c).2 main_v0_0 (Pipeline.mem_restRefs_of _ (by decide) (by decide))).trans (tailZ m c),
      ((h.1 c).2 main_v0_1 (Pipeline.mem_restRefs_of _ (by decide) (by decide))).trans (tailL m c),
      ((h.1 c).2 main_v0_2 (Pipeline.mem_restRefs_of _ (by decide) (by decide))).trans (tailI m c),
      (h.2.1 c).1, (h.2.1 c).2⟩)
    (θ_run_and ((θ_run defs _ _).mono (fun _ h => h.1) (run_all m ρ)) (frame_all m ρ))

end Cert.KernelIdeal.Vq

end
-- ==== Proof.Vq.Pick.lean ====
/- The first least of a finite family, and how a sum of halving weights finds it. -/
module

public import Idealize.ShloMosaic.Lib.Pointwise

@[expose] public section

noncomputable section

namespace Cert.Vq

/-- `k` is where `D` is least, and the first such place. -/
def IsFirst {n : ℕ} (D : Fin n → ℝ) (k : Fin n) : Prop := (∀ j, D k ≤ D j) ∧ ∀ j, j < k → D k < D j

/-- A nonempty family has a first least place. -/
theorem exists_first {n : ℕ} (D : Fin (n + 1) → ℝ) : ∃ k, IsFirst D k := by
  classical
  obtain ⟨a, -, ha⟩ := Finset.exists_min_image Finset.univ D ⟨0, Finset.mem_univ _⟩
  have hne : (Finset.univ.filter fun k => ∀ j, D k ≤ D j).Nonempty :=
    ⟨a, Finset.mem_filter.mpr ⟨Finset.mem_univ _, fun j => ha j (Finset.mem_univ _)⟩⟩
  refine ⟨(Finset.univ.filter fun k => ∀ j, D k ≤ D j).min' hne, ?_, fun j hj => ?_⟩
  · exact (Finset.mem_filter.mp (Finset.min'_mem _ hne)).2
  · by_contra h
    have hm := (Finset.mem_filter.mp (Finset.min'_mem _ hne)).2
    exact absurd hj (not_lt.mpr (Finset.min'_le _ _ (Finset.mem_filter.mpr
      ⟨Finset.mem_univ _, fun i => le_trans (not_lt.mp h) (hm i)⟩)))

/-- Only one place is the first least. -/
theorem IsFirst.unique {n : ℕ} {D : Fin n → ℝ} {a b : Fin n} (ha : IsFirst D a) (hb : IsFirst D b) : a = b := by
  rcases lt_trichotomy a b with h | h | h
  · exact absurd (ha.1 b) (not_le.mpr (hb.2 a h))
  · exact h
  · exact absurd (hb.1 a) (not_le.mpr (ha.2 b h))

/-- The first least place. -/
def pick (D : Fin 1024 → ℝ) : Fin 1024 := Classical.choose (exists_first D)

/-- It is. -/
theorem pick_first (D : Fin 1024 → ℝ) : IsFirst D (pick D) := Classical.choose_spec (exists_first D)

/-- One where `D` is least, zero elsewhere. -/
def hit (D : Fin 1024 → ℝ) (k : Fin 1024) : ℝ := by classical exact if ∀ j, D k ≤ D j then 1 else 0

/-- Before the first least place there is no least place. -/
theorem hit_of_lt (D : Fin 1024 → ℝ) (k : Fin 1024) (h : k < pick D) : hit D k = 0 := by
  unfold hit
  exact if_neg fun hk => absurd (hk (pick D)) (not_le.mpr ((pick_first D).2 k h))

/-- The first least place is a least place. -/
theorem hit_pick (D : Fin 1024 → ℝ) : hit D (pick D) = 1 := by
  unfold hit
  exact if_pos (pick_first D).1

/-- A hit is not negative, -/
theorem hit_nonneg (D : Fin 1024 → ℝ) (k : Fin 1024) : 0 ≤ hit D k := by
  unfold hit; split <;> norm_num

/-- and at most one. -/
theorem hit_le_one (D : Fin 1024 → ℝ) (k : Fin 1024) : hit D k ≤ 1 := by
  unfold hit; split <;> norm_num

/-- The squared distance of two points, written out. -/
def score (a b : Fin 32 → ℝ) : ℝ := (∑ c, a c * a c) + (∑ c, b c * b c) - 2 * ∑ c, a c * b c

/-- A sum of reals is the same sum among the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real equals the least of a family of reals exactly when it is at most each of them and one of them. -/
theorem eq_fold_min_iff {n : ℕ} (D : Fin n → ℝ) (k : Fin n) :
    ((D k : EReal) = Finset.univ.fold min ⊤ fun j => (D j : EReal)) ↔ ∀ j, D k ≤ D j := by
  constructor
  · intro h j
    have h1 : Finset.univ.fold min ⊤ (fun j => (D j : EReal)) ≤ (D j : EReal) :=
      Finset.fold_min_le _ |>.mpr (.inr ⟨j, Finset.mem_univ _, le_refl _⟩)
    rw [← h] at h1
    exact EReal.coe_le_coe_iff.mp h1
  · intro h
    refine le_antisymm ?_ (Finset.fold_min_le _ |>.mpr (.inr ⟨k, Finset.mem_univ _, le_refl _⟩))
    exact Finset.le_fold_min _ |>.mpr ⟨le_top, fun j _ => EReal.coe_le_coe_iff.mpr (h j)⟩

/-- The weight of entry `k` in group `g`: a power of a half inside the group, zero outside. -/
def wt (g : Fin 32) (k : Fin 1024) : ℝ := if k.val / 32 = g.val then (1 / 2) ^ (k.val % 32) else 0

/-- What group `g` sums to. -/
def mass (D : Fin 1024 → ℝ) (g : Fin 32) : ℝ := ∑ k : Fin 1024, wt g k * hit D k

/-- A weight is not negative. -/
theorem wt_nonneg (g : Fin 32) (k : Fin 1024) : 0 ≤ wt g k := by
  unfold wt; split <;> positivity

/-- A group before the first least entry's sums to zero. -/
theorem mass_before (D : Fin 1024 → ℝ) (g : Fin 32) (h : g.val < (pick D).val / 32) : mass D g = 0 := by
  refine Finset.sum_eq_zero fun k _ => ?_
  by_cases hk : k.val / 32 = g.val
  · rw [hit_of_lt D k (by rw [Fin.lt_def]; omega), mul_zero]
  · rw [wt, if_neg hk, zero_mul]

/-- The first least entry's group sums to at least that entry's weight, -/
theorem mass_ge (D : Fin 1024 → ℝ) (g : Fin 32) (h : g.val = (pick D).val / 32) :
    (1 / 2) ^ ((pick D).val % 32) ≤ mass D g := by
  have h1 : wt g (pick D) * hit D (pick D) = (1 / 2) ^ ((pick D).val % 32) := by
    rw [hit_pick, mul_one, wt, if_pos h.symm]
  rw [← h1]
  exact Finset.single_le_sum (f := fun k => wt g k * hit D k)
    (fun k _ => mul_nonneg (wt_nonneg g k) (hit_nonneg D k)) (Finset.mem_univ _)

/-- and to less than twice it. -/
theorem mass_lt (D : Fin 1024 → ℝ) (g : Fin 32) (h : g.val = (pick D).val / 32) :
    mass D g < 2 * (1 / 2) ^ ((pick D).val % 32) := by
  have hb : ∀ k : Fin 1024, wt g k * hit D k
      ≤ if k.val / 32 = g.val ∧ (pick D).val % 32 ≤ k.val % 32 then (1 / 2 : ℝ) ^ (k.val % 32) else 0 := fun k => by
    by_cases hk : k.val / 32 = g.val
    · by_cases hl : (pick D).val % 32 ≤ k.val % 32
      · rw [if_pos ⟨hk, hl⟩, wt, if_pos hk]
        exact mul_le_of_le_one_right (by positivity) (hit_le_one D k)
      · rw [hit_of_lt D k (by rw [Fin.lt_def]; omega), mul_zero, if_neg (fun q => hl q.2)]
    · rw [wt, if_neg hk, zero_mul, if_neg (fun q => hk q.1)]
  have hs : ∑ k : Fin 1024, (if k.val / 32 = g.val ∧ (pick D).val % 32 ≤ k.val % 32 then (1 / 2 : ℝ) ^ (k.val % 32) else 0)
      = ∑ l ∈ Finset.Ico ((pick D).val % 32) 32, (1 / 2 : ℝ) ^ l := by
    rw [← Finset.sum_filter]
    have hg := g.isLt
    refine Finset.sum_bij' (fun k _ => k.val % 32)
      (fun l hl => ⟨32 * g.val + l, by rw [Finset.mem_Ico] at hl; omega⟩) ?_ ?_ ?_ ?_ ?_
    · intro k hk
      rw [Finset.mem_filter] at hk
      rw [Finset.mem_Ico]
      exact ⟨hk.2.2, Nat.mod_lt _ (by norm_num)⟩
    · intro l hl
      rw [Finset.mem_Ico] at hl
      rw [Finset.mem_filter]
      refine ⟨Finset.mem_univ _, ?_, ?_⟩
      · show (32 * g.val + l) / 32 = g.val
        omega
      · show _ ≤ (32 * g.val + l) % 32
        omega
    · intro k hk
      rw [Finset.mem_filter] at hk
      apply Fin.ext
      show 32 * g.val + k.val % 32 = k.val
      omega
    · intro l hl
      rw [Finset.mem_Ico] at hl
      show (32 * g.val + l) % 32 = l
      omega
    · intro k _
      rfl
  calc mass D g ≤ _ := Finset.sum_le_sum fun k _ => hb k
    _ = ∑ l ∈ Finset.Ico ((pick D).val % 32) 32, (1 / 2 : ℝ) ^ l := hs
    _ = 2 * ((1 / 2) ^ ((pick D).val % 32) - (1 / 2) ^ 32) := by
        rw [geom_sum_Ico (by norm_num) (by omega)]; ring
    _ < 2 * (1 / 2) ^ ((pick D).val % 32) := by norm_num

end Cert.Vq

end
-- ==== Proof.Vq.Words.lean ====
/- The words the kernel builds its weights from and reads its entry numbers off. -/
module

public import proofs.«01_k».proof.Proof.Vq.Pick

@[expose] public section

set_option maxRecDepth 16384

noncomputable section

namespace Cert.Vq

open Idealize.ShloMosaic

/-- The word `127 - l` in the exponent's place. -/
theorem half_word (l : Fin 32) : IntOp.shli ArithUnit.vector (127#32 - BitVec.ofNat 32 l.val) 23#32
    = BitVec.ofNat 32 ((127 - l.val) * 8388608) := by
  revert l
  decide +kernel

/-- The word `127 - l` shifted into the exponent's place reads as a power of a half. -/
theorem half_pow (l : Fin 32) : Ideal.ofBits .f32 (IntOp.shli ArithUnit.vector (127#32 - BitVec.ofNat 32 l.val) 23#32)
    = (((1 / 2 : ℝ) ^ l.val : ℝ) : EReal) := by
  rw [half_word]
  fin_cases l <;> simp [Ideal.ofBits, Ideal.ieee] <;> norm_num [zpow_neg, ← EReal.coe_mul]

/-- Whether an entry's word lies in a group's band. -/
theorem band (g : Fin 32) (k : Fin 1024) :
    IntOp.andi (IntOp.cmpi .sge (IntOp.subi (BitVec.ofNat 32 k.val) (IntOp.muli (BitVec.ofNat 32 g.val) 32#32)) 0#32)
      (IntOp.cmpi .slt (IntOp.subi (BitVec.ofNat 32 k.val) (IntOp.muli (BitVec.ofNat 32 g.val) 32#32)) 32#32)
      = if k.val / 32 = g.val then 1#1 else 0#1 := by
  revert g k
  decide +kernel

end Cert.Vq

end
-- ==== Proof.Vq.KerRead.lean ====
/- The idealized kernel's body read one element at a time. -/
module

public import proofs.«01_k».proof.Proof.Vq.Body
public import proofs.«01_k».proof.Proof.Vq.Words
public import Idealize.ShloMosaic.Lib.Pointwise

@[expose] public section

set_option maxRecDepth 16384

noncomputable section

namespace Cert.KernelIdeal.Vq

open Cert.KernelIdeal Cert.KernelIdeal.Gen
open Idealize.ShloMosaic Idealize.ShloMosaic.TcCoe Idealize.ShloMosaic.Tactic

variable (x : Vec Ideal S1x32x128x32 .f32) (e : Vec Ideal S1024x32 .f32)

/-- The kernel's scores of a block: entries down, tokens across. -/
def distK : FVec Ideal S1024x4096 .f32 :=
  addf (addf
      (broadcastTo S1024x4096 (shapeCast S1x4096 (multiReduction .add [0] S4096 (mulf (k0_pay5 x) (k0_pay5 x)) 0x00000000#32
        reduces_S32x4096_S4096 (.inl rfl) rfl) shapeCasts_S4096_S1x4096) broadcasts_S1x4096_S1024x4096)
      (broadcastTo S1024x4096 (k0_pay3 e) broadcasts_S1024x1_S1024x4096))
    (matmul dot_S1024x32_S32x4096_S1024x4096_1_0_0_1_n_n none (k0_pay2 e) (k0_pay5 x) (constant S1024x4096 .f32 0x00000000#32))

/-- The least score of each token. -/
def leastK : FVec Ideal S4096 .f32 :=
  multiReduction .minimumf [0] S4096 (distK x e) 0x7F800000#32 reduces_S1024x4096_S4096 (.inl rfl) rfl

/-- Which entries attain a token's least score, as ones and zeros. -/
def hitK : FVec Ideal S1024x4096 .f32 :=
  sitofp .f32 (extui 32 (cmpf .oeq (distK x e) (broadcastTo S1024x4096 (shapeCast S1x4096 (leastK x e) shapeCasts_S4096_S1x4096)
    broadcasts_S1x4096_S1024x4096)) natLt_1_32)

/-- The group scores are the band weights times the hit mask. -/
theorem scores_eq : scores x e = matmul dot_S32x1024_S1024x4096_S32x4096_1_0_0_1_n_n none k0_pay4 (hitK x e)
    (constant S32x4096 .f32 0x00000000#32) := rfl

/-- A block's column `p` is its pixel at row `p / 32`, column `p % 32`. -/
theorem col_apply (c : Fin 32) (p : Fin 4096) : k0_pay5 x (ix2 c p)
    = x (ix4 0 c ⟨p.val / 32, by omega⟩ ⟨p.val % 32, by omega⟩) := by
  unfold k0_pay5
  pointwise

/-- A score, one element. -/
theorem distK_apply (k : Fin 1024) (p : Fin 4096) : distK x e (ix2 k p)
    = (∑ c : Fin 32, k0_pay5 x (ix2 c p) * k0_pay5 x (ix2 c p)) + (∑ c : Fin 32, e (ix2 k c) * e (ix2 k c))
      + ∑ c : Fin 32, (0 - (e (ix2 k c) + e (ix2 k c))) * k0_pay5 x (ix2 c p) := by
  unfold distK k0_pay2 k0_pay3
  pointwise

/-- A group's mass, one element. -/
theorem scores_apply (g : Fin 32) (p : Fin 4096) : scores x e (ix2 g p)
    = ∑ k : Fin 1024, k0_pay4 (F := Ideal) (ix2 g k) * hitK x e (ix2 k p) := by
  rw [scores_eq]
  pointwise

/-- A hit, one element. -/
theorem hitK_apply (k : Fin 1024) (p : Fin 4096) : hitK x e (ix2 k p)
    = if distK x e (ix2 k p) = leastK x e (ix1 p) then 1 else 0 := by
  unfold hitK
  pointwise
  by_cases h : distK x e (ix2 k p) = leastK x e (ix1 p)
  · rw [if_pos h, decide_eq_true h]
    show ((((1#32).toInt : ℤ) : ℝ) : EReal) = 1
    rw [show (1#32).toInt = 1 from rfl]
    norm_num
  · rw [if_neg h, decide_eq_false h]
    show ((((0#32).toInt : ℤ) : ℝ) : EReal) = 0
    rw [show (0#32).toInt = 0 from rfl]
    norm_num

/-- The least score, one element. -/
theorem leastK_apply (p : Fin 4096) : leastK x e (ix1 p)
    = Finset.univ.fold min ⊤ fun k : Fin 1024 => distK x e (ix2 k p) := by
  have htop : Ideal.ofBits .f32 0x7F800000#32 = ⊤ := by simp [Ideal.ofBits, Ideal.ieee]
  unfold leastK
  pointwise
  exact congrArg (fun b => Finset.fold min b (fun k : Fin 1024 => distK x e (ix2 k p)) Finset.univ) htop

/-- A weight, one element. -/
theorem weight_apply (g : Fin 32) (k : Fin 1024) : k0_pay4 (F := Ideal) (ix2 g k) = ((Cert.Vq.wt g k : ℝ) : EReal) := by
  unfold k0_pay4
  pointwise
  rw [Cert.Vq.band, Cert.Vq.wt]
  by_cases h : k.val / 32 = g.val
  · rw [if_pos h, if_pos h]
    have hw : IntOp.subi (BitVec.ofNat 32 k.val) (IntOp.muli (BitVec.ofNat 32 g.val) 32#32) = BitVec.ofNat 32 (k.val % 32) := by
      show BitVec.ofNat 32 k.val - BitVec.ofNat 32 g.val * 32#32 = _
      have hk : BitVec.ofNat 32 k.val = BitVec.ofNat 32 (k.val % 32) + BitVec.ofNat 32 g.val * 32#32 := by
        rw [show (32#32 : BitVec 32) = BitVec.ofNat 32 32 from rfl, ← BitVec.ofNat_mul, ← BitVec.ofNat_add]
        congr 1
        omega
      rw [hk, BitVec.add_sub_cancel]
    rw [hw]
    exact Cert.Vq.half_pow ⟨k.val % 32, Nat.mod_lt _ (by norm_num)⟩
  · rw [if_neg h, if_neg h]
    rfl

/-- The first group that sums to more than zero, one element. -/
theorem group_apply (p : Fin 4096) : group x e (ix1 p)
    = Finset.univ.fold IntOp.minsi 2147483647#32
        (fun g : Fin 32 => if 0 < scores x e (ix2 g p) then BitVec.ofNat 32 g.val else 32#32) := by
  unfold group k0_pay7
  pointwise
  exact Finset.fold_congr fun g _ => if_congr Iff.rfl rfl rfl

/-- A choice by a comparison of words. -/
theorem pick_word (a b : BitVec 32) (u v : EReal) : Scalar.select (IntOp.cmpi .eq a b) u v = if a = b then u else v := by
  by_cases h : a = b
  · rw [if_pos h, show IntOp.cmpi .eq a b = 1#1 by simp [IntOp.cmpi, h]]
    rfl
  · rw [if_neg h, show IntOp.cmpi .eq a b = 0#1 by simp [IntOp.cmpi, beq_eq_false_iff_ne.mpr h]]
    rfl

/-- The entry number, one element. -/
theorem code_apply (p : Fin 4096) : code x e (ix1 p)
    = IntOp.addi (IntOp.muli (group x e (ix1 p)) 32#32) (IntOp.subi 127#32 (IntOp.subi 128#32
        (IntOp.ctlz (Ideal.fptosi 32 ((Finset.univ.fold max ⊥
          fun g : Fin 32 => if BitVec.ofNat 32 g.val = group x e (ix1 p) then scores x e (ix2 g p) else 0)
            * Ideal.ofBits .f32 0x4E800000#32))))) := by
  have hbot : Ideal.ofBits .f32 0xFF800000#32 = ⊥ := by simp [Ideal.ofBits, Ideal.ieee]
  have hg : ∀ g : Fin 32, groups x e (ix2 g p) = group x e (ix1 p) := fun g => by
    unfold groups group k0_pay8
    pointwise
  have hs : ∀ g : Fin 32, Scalar.select (IntOp.cmpi .eq (rows (ix2 g p)) (groups x e (ix2 g p))) (scores x e (ix2 g p)) 0
      = if BitVec.ofNat 32 g.val = group x e (ix1 p) then scores x e (ix2 g p) else 0 := fun g => by
    have hr : rows (ix2 g p) = BitVec.ofNat 32 g.val := by
      unfold rows
      pointwise
    rw [hg, hr, pick_word]
  unfold code k0_pay9
  pointwise
  simp only [hs, hbot]
  rfl

/-- A comparison of words as a number. -/
theorem hit_word (a b : BitVec 32) : (FloatOps.sitofp FTy.f32 (BitVec.setWidth 32 (IntOp.cmpi .eq a b)) : Ideal .f32)
    = if a = b then 1 else 0 := by
  by_cases h : a = b
  · rw [if_pos h, show IntOp.cmpi .eq a b = 1#1 by simp [IntOp.cmpi, h]]
    show ((((1#32).toInt : ℤ) : ℝ) : EReal) = 1
    rw [show (1#32).toInt = 1 from rfl]
    norm_num
  · rw [if_neg h, show IntOp.cmpi .eq a b = 0#1 by simp [IntOp.cmpi, beq_eq_false_iff_ne.mpr h]]
    show ((((0#32).toInt : ℤ) : ℝ) : EReal) = 0
    rw [show (0#32).toInt = 0 from rfl]
    norm_num

/-- The picked rows: channels down, tokens across. -/
def rowK : FVec Ideal S32x4096 .f32 := k0_pay10 e (scores x e) rows (group x e) (groups x e)

/-- The picked row, one element: a sum against ones and zeros. -/
theorem rowK_apply (c : Fin 32) (p : Fin 4096) : rowK x e (ix2 c p)
    = ∑ k : Fin 1024, e (ix2 k c) * (if BitVec.ofNat 32 k.val = code x e (ix1 p) then 1 else 0) := by
  unfold rowK k0_pay10
  pointwise
  exact Finset.sum_congr rfl fun k _ => congrArg (e (ix2 k c) * ·) (hit_word _ _)

/-- A block's result, one element. -/
theorem outZ_apply (c : Fin 32) (r : Fin 128) (q : Fin 32) (h : r.val * 32 + q.val < 4096) : outZ x e (ix4 0 c r q)
    = k0_pay5 x (ix2 c ⟨r.val * 32 + q.val, h⟩)
      + (rowK x e (ix2 c ⟨r.val * 32 + q.val, h⟩) - k0_pay5 x (ix2 c ⟨r.val * 32 + q.val, h⟩)) := by
  unfold outZ k0_pay11
  pointwise
  rfl

/-- A block's entry numbers, one element. -/
theorem outI_apply (a : Fin 32) (b : Fin 128) (h : a.val * 128 + b.val < 4096) : outI x e (ix3 0 a b)
    = code x e (ix1 ⟨a.val * 128 + b.val, h⟩) := by
  unfold outI k0_pay12
  pointwise
  rfl

/-- A block's part of the loss. -/
theorem part_apply : part x e (ix2 0 0) = ∑ c : Fin 32, ∑ p : Fin 4096,
    (rowK x e (ix2 c p) - k0_pay5 x (ix2 c p)) * (rowK x e (ix2 c p) - k0_pay5 x (ix2 c p)) := by
  unfold part k0_pay13
  pointwise
  rfl

end Cert.KernelIdeal.Vq

end
-- ==== Proof.Vq.Codes.lean ====
/- The entry number read off a sum of halving weights by counting leading zeros. -/
module

public import proofs.«01_k».proof.Proof.Vq.Pick

@[expose] public section

set_option maxRecDepth 16384

noncomputable section

namespace Cert.Vq

open Idealize.ShloMosaic

/-- The literal two to the thirtieth. -/
theorem two_thirty : Ideal.ofBits .f32 0x4E800000#32 = ((2 ^ 30 : ℝ) : EReal) := by
  simp [Ideal.ofBits, Ideal.ieee]
  rw [← EReal.coe_pow, ← EReal.coe_pow, ← EReal.coe_mul]
  exact congrArg _ (by norm_num)

/-- A number from `2 ^ (30 - l)` up to twice that has `l + 1` leading zeros among 32 bits. -/
theorem leading (n l : ℕ) (hl : l ≤ 30) (h1 : 2 ^ (30 - l) ≤ n) (h2 : n < 2 ^ (31 - l)) :
    IntOp.ctlz (BitVec.ofNat 32 n) = BitVec.ofNat 32 (l + 1) := by
  have hp : 0 < 2 ^ (30 - l) := by positivity
  have hb : 2 ^ (31 - l) ≤ 2 ^ 31 := Nat.pow_le_pow_right (by norm_num) (by omega)
  have hn : n < 2 ^ 32 := by omega
  have h0 : BitVec.ofNat 32 n ≠ 0 := fun h => by
    have := congrArg BitVec.toNat h
    rw [BitVec.toNat_ofNat, Nat.mod_eq_of_lt hn] at this
    simp at this
    omega
  have hlog : Nat.log2 n = 30 - l := by
    rw [Nat.log2_eq_iff (by omega)]
    exact ⟨h1, by rw [show 30 - l + 1 = 31 - l by omega]; exact h2⟩
  unfold IntOp.ctlz
  rw [if_neg h0, BitVec.toNat_ofNat, Nat.mod_eq_of_lt hn, hlog]
  congr 1
  omega

/-- A real between `2 ^ -l` and twice that, scaled by two to the thirtieth and cut to a whole number, has `l + 1`
leading zeros. -/
theorem leading_of_real (s : ℝ) (l : ℕ) (hl : l < 32) (h1 : (1 / 2) ^ l ≤ s) (h2 : s < 2 * (1 / 2) ^ l) :
    IntOp.ctlz (Ideal.fptosi 32 ((s : EReal) * Ideal.ofBits .f32 0x4E800000#32)) = BitVec.ofNat 32 (l + 1) := by
  have hs : 0 ≤ s := le_trans (by positivity) h1
  have hs2 : 0 ≤ s * 2 ^ 30 := by positivity
  rw [two_thirty, ← EReal.coe_mul, Ideal.fptosi, Ideal.toIntClamped_coe, if_pos hs2]
  rcases Nat.lt_or_ge l 31 with h | h
  · obtain ⟨d, hd⟩ : ∃ d, 30 = l + d := ⟨30 - l, by omega⟩
    have e1 : (1 / 2 : ℝ) ^ l * 2 ^ 30 = 2 ^ d := by
      rw [hd, pow_add, ← mul_assoc, ← mul_pow]; norm_num
    have f1 : ((2 ^ d : ℕ) : ℤ) ≤ ⌊s * 2 ^ 30⌋ := by
      rw [Int.le_floor]
      push_cast
      rw [← e1]
      exact mul_le_mul_of_nonneg_right h1 (by positivity)
    have f2 : ⌊s * 2 ^ 30⌋ < ((2 ^ (d + 1) : ℕ) : ℤ) := by
      rw [Int.floor_lt]
      push_cast
      rw [pow_succ (2 : ℝ) d, ← e1]
      have := mul_lt_mul_of_pos_right h2 (show (0 : ℝ) < 2 ^ 30 by positivity)
      linarith
    obtain ⟨n, hn⟩ := Int.eq_ofNat_of_zero_le (le_trans (by positivity) f1)
    rw [hn] at f1 f2 ⊢
    have g1 : 2 ^ d ≤ n := by exact_mod_cast f1
    have g2 : n < 2 ^ (d + 1) := by exact_mod_cast f2
    have hb : 2 ^ (d + 1) ≤ 2 ^ 31 := Nat.pow_le_pow_right (by norm_num) (by omega)
    rw [min_eq_right (by norm_num; omega), max_eq_right (by norm_num)]
    rw [show BitVec.ofInt 32 ((n : ℕ) : ℤ) = BitVec.ofNat 32 n from BitVec.ofInt_natCast 32 n]
    exact leading n l (by omega) (by rw [show 30 - l = d by omega]; exact g1)
      (by rw [show 31 - l = d + 1 by omega]; exact g2)
  · obtain rfl : l = 31 := by omega
    have f : ⌊s * 2 ^ 30⌋ = 0 := by
      rw [Int.floor_eq_zero_iff]
      refine ⟨hs2, ?_⟩
      norm_num at h2 ⊢
      linarith
    rw [f]
    decide

/-- The entry number that the kernel puts together. -/
theorem entry_word (s : ℝ) (g l : ℕ) (hl : l < 32) (h1 : (1 / 2) ^ l ≤ s) (h2 : s < 2 * (1 / 2) ^ l) :
    IntOp.addi (IntOp.muli (BitVec.ofNat 32 g) 32#32) (IntOp.subi 127#32 (IntOp.subi 128#32
      (IntOp.ctlz (Ideal.fptosi 32 ((s : EReal) * Ideal.ofBits .f32 0x4E800000#32)))))
      = BitVec.ofNat 32 (32 * g + l) := by
  rw [leading_of_real s l hl h1 h2]
  show BitVec.ofNat 32 g * 32#32 + (127#32 - (128#32 - BitVec.ofNat 32 (l + 1))) = _
  have : 127#32 - (128#32 - BitVec.ofNat 32 (l + 1)) = BitVec.ofNat 32 l := by
    interval_cases l <;> rfl
  rw [this, show (32#32 : BitVec 32) = BitVec.ofNat 32 32 from rfl, ← BitVec.ofNat_mul, ← BitVec.ofNat_add, mul_comm]

/-- The lesser of two small numbers as words is the lesser as numbers. -/
theorem minsi_ofNat (a b : ℕ) (ha : a < 2 ^ 31) (hb : b < 2 ^ 31) :
    IntOp.minsi (BitVec.ofNat 32 a) (BitVec.ofNat 32 b) = BitVec.ofNat 32 (min a b) := by
  have hi : ∀ n : ℕ, n < 2 ^ 31 → (BitVec.ofNat 32 n).toInt = n := fun n hn => by
    rw [BitVec.toInt_eq_toNat_of_lt] <;> rw [BitVec.toNat_ofNat, Nat.mod_eq_of_lt (by omega)]
    omega
  unfold IntOp.minsi
  rw [BitVec.slt, hi a ha, hi b hb]
  by_cases h : a < b
  · rw [if_pos (decide_eq_true (by exact_mod_cast h)), min_eq_left h.le]
  · rw [if_neg (by simpa using h), min_eq_right (not_lt.mp h)]

/-- The least of a family of small numbers, as words and as numbers. -/
theorem fold_minsi {ι : Type*} (s : Finset ι) (v : ι → ℕ) (hv : ∀ i, v i < 2 ^ 31) :
    s.fold IntOp.minsi 2147483647#32 (fun i => BitVec.ofNat 32 (v i)) = BitVec.ofNat 32 (s.fold min (2 ^ 31 - 1) v)
      ∧ s.fold min (2 ^ 31 - 1) v < 2 ^ 31 := by
  classical
  induction s using Finset.induction_on with
  | empty => exact ⟨rfl, by norm_num⟩
  | insert a s ha ih =>
    rw [Finset.fold_insert ha, Finset.fold_insert ha, ih.1, minsi_ofNat _ _ (hv a) ih.2]
    exact ⟨rfl, lt_of_le_of_lt (min_le_left _ _) (hv a)⟩

/-- The least group number among those marked is the first marked one's. -/
theorem least_group (P : Fin 32 → Prop) [DecidablePred P] (g0 : Fin 32) (h0 : P g0) (hb : ∀ g, g < g0 → ¬ P g) :
    Finset.univ.fold IntOp.minsi 2147483647#32 (fun g : Fin 32 => if P g then BitVec.ofNat 32 g.val else 32#32)
      = BitVec.ofNat 32 g0.val := by
  have hf : (fun g : Fin 32 => if P g then BitVec.ofNat 32 g.val else 32#32)
      = fun g => BitVec.ofNat 32 (if P g then g.val else 32) := by
    funext g
    split <;> rfl
  rw [hf, (fold_minsi Finset.univ _ fun g => by have := g.isLt; split <;> omega).1]
  congr 1
  apply le_antisymm
  · refine (Finset.fold_min_le _).mpr (.inr ⟨g0, Finset.mem_univ _, ?_⟩)
    rw [if_pos h0]
  · have h32 := g0.isLt
    refine (Finset.le_fold_min _).mpr ⟨by omega, fun g _ => ?_⟩
    by_cases hg : P g
    · rw [if_pos hg]
      exact not_lt.mp fun h => hb g h hg
    · rw [if_neg hg]
      omega

/-- The greatest of a family that is zero except at one place, where it is not negative. -/
theorem greatest_only (S : EReal) (hS : 0 ≤ S) (g0 : Fin 32) :
    Finset.univ.fold max ⊥ (fun g : Fin 32 => if g = g0 then S else 0) = S := by
  apply le_antisymm
  · refine (Finset.fold_max_le _).mpr ⟨bot_le, fun g _ => ?_⟩
    show (if g = g0 then S else 0) ≤ S
    split
    · exact le_refl _
    · exact hS
  · refine (Finset.le_fold_max _).mpr (.inr ⟨g0, Finset.mem_univ _, ?_⟩)
    show S ≤ if g0 = g0 then S else 0
    rw [if_pos rfl]

end Cert.Vq

end
-- ==== Proof.Vq.KerValue.lean ====
/- What the idealized kernel picks for each token of a block of finite numbers: the first nearest entry. -/
module

public import proofs.«01_k».proof.Proof.Vq.KerRead
public import proofs.«01_k».proof.Proof.Vq.Codes

@[expose] public section

set_option maxRecDepth 16384

noncomputable section

namespace Cert.KernelIdeal.Vq

open Cert.KernelIdeal Cert.KernelIdeal.Gen Cert.Vq
open Idealize.ShloMosaic Idealize.ShloMosaic.TcCoe Idealize.ShloMosaic.Tactic

variable (x : Vec Ideal S1x32x128x32 .f32) (e : Vec Ideal S1024x32 .f32)
variable (a : Fin 32 → ℝ) (b : Fin 1024 → Fin 32 → ℝ) (p : Fin 4096)

/-- A finite token's score against a finite entry is their squared distance. -/
theorem distK_real (ha : ∀ c, k0_pay5 x (ix2 c p) = (a c : EReal)) (hb : ∀ k c, e (ix2 k c) = (b k c : EReal)) (k : Fin 1024) :
    distK x e (ix2 k p) = ((score a (b k) : ℝ) : EReal) := by
  rw [distK_apply]
  simp only [ha, hb, ← EReal.coe_zero, ← EReal.coe_add, ← EReal.coe_sub, ← EReal.coe_mul, coe_sum]
  refine congrArg _ ?_
  rw [score, sub_eq_add_neg, Finset.mul_sum, ← Finset.sum_neg_distrib]
  refine congrArg _ (Finset.sum_congr rfl fun c _ => ?_)
  ring

/-- The hits are where the distance is least. -/
theorem hitK_real (ha : ∀ c, k0_pay5 x (ix2 c p) = (a c : EReal)) (hb : ∀ k c, e (ix2 k c) = (b k c : EReal)) (k : Fin 1024) :
    hitK x e (ix2 k p) = ((hit (fun k => score a (b k)) k : ℝ) : EReal) := by
  rw [hitK_apply, leastK_apply]
  simp only [distK_real x e a b p ha hb]
  rw [hit]
  have h := eq_fold_min_iff (fun k => score a (b k)) k
  by_cases hk : ∀ j, score a (b k) ≤ score a (b j)
  · rw [if_pos (h.mpr hk), if_pos hk, EReal.coe_one]
  · rw [if_neg (fun q => hk (h.mp q)), if_neg hk, EReal.coe_zero]

/-- The groups' scores are their masses. -/
theorem scores_real (ha : ∀ c, k0_pay5 x (ix2 c p) = (a c : EReal)) (hb : ∀ k c, e (ix2 k c) = (b k c : EReal)) (g : Fin 32) :
    scores x e (ix2 g p) = ((mass (fun k => score a (b k)) g : ℝ) : EReal) := by
  rw [scores_apply]
  simp only [hitK_real x e a b p ha hb, weight_apply, ← EReal.coe_mul, coe_sum]
  rfl

/-- The group picked is the first nearest entry's. -/
theorem group_real (ha : ∀ c, k0_pay5 x (ix2 c p) = (a c : EReal)) (hb : ∀ k c, e (ix2 k c) = (b k c : EReal)) :
    group x e (ix1 p) = BitVec.ofNat 32 ((pick fun k => score a (b k)).val / 32) := by
  classical
  rw [group_apply]
  simp only [scores_real x e a b p ha hb]
  have hlt := (pick fun k => score a (b k)).isLt
  refine Eq.trans (Finset.fold_congr fun g _ => if_congr Iff.rfl rfl rfl) (least_group
    (fun g => (0 : EReal) < ((mass (fun k => score a (b k)) g : ℝ) : EReal)) ⟨(pick fun k => score a (b k)).val / 32, by omega⟩ ?_ ?_)
  · exact EReal.coe_pos.mpr (lt_of_lt_of_le (by positivity) (mass_ge _ _ rfl))
  · intro g hg
    rw [mass_before _ g hg]
    simp

/-- The entry picked is the first nearest. -/
theorem code_real (ha : ∀ c, k0_pay5 x (ix2 c p) = (a c : EReal)) (hb : ∀ k c, e (ix2 k c) = (b k c : EReal)) :
    code x e (ix1 p) = BitVec.ofNat 32 (pick fun k => score a (b k)).val := by
  classical
  have hlt := (pick fun k => score a (b k)).isLt
  have hw : ∀ g : Fin 32, (BitVec.ofNat 32 g.val = BitVec.ofNat 32 ((pick fun k => score a (b k)).val / 32))
      ↔ g = ⟨(pick fun k => score a (b k)).val / 32, by omega⟩ := fun g => by
    have hg := g.isLt
    rw [Fin.ext_iff]
    constructor
    · intro h
      have := congrArg BitVec.toNat h
      rwa [BitVec.toNat_ofNat, BitVec.toNat_ofNat, Nat.mod_eq_of_lt (by omega), Nat.mod_eq_of_lt (by omega)] at this
    · intro h
      exact congrArg _ h
  rw [code_apply, group_real x e a b p ha hb]
  have hf : (Finset.univ.fold max ⊥ fun g : Fin 32 =>
      if BitVec.ofNat 32 g.val = BitVec.ofNat 32 ((pick fun k => score a (b k)).val / 32) then scores x e (ix2 g p) else 0)
      = ((mass (fun k => score a (b k)) ⟨(pick fun k => score a (b k)).val / 32, by omega⟩ : ℝ) : EReal) := by
    refine Eq.trans (Finset.fold_congr fun g _ => ?_) (greatest_only _ ?_ ⟨(pick fun k => score a (b k)).val / 32, by omega⟩)
    · by_cases h : g = ⟨(pick fun k => score a (b k)).val / 32, by omega⟩
      · rw [if_pos ((hw g).mpr h), if_pos h, scores_real x e a b p ha hb, h]
      · rw [if_neg (fun q => h ((hw g).mp q)), if_neg h]
    · exact EReal.coe_nonneg.mpr (le_trans (by positivity) (mass_ge _ _ rfl))
  rw [hf, entry_word _ _ _ (Nat.mod_lt _ (by norm_num)) (mass_ge _ _ rfl) (mass_lt _ _ rfl), Nat.div_add_mod]

/-- The row picked is that entry's. -/
theorem rowK_real (ha : ∀ c, k0_pay5 x (ix2 c p) = (a c : EReal)) (hb : ∀ k c, e (ix2 k c) = (b k c : EReal)) (c : Fin 32) :
    rowK x e (ix2 c p) = ((b (pick fun k => score a (b k)) c : ℝ) : EReal) := by
  rw [rowK_apply, code_real x e a b p ha hb]
  rw [Finset.sum_eq_single (pick fun k => score a (b k)), if_pos rfl, mul_one, hb]
  · intro k _ hk
    rw [if_neg, mul_zero]
    intro h
    apply hk
    have h1 := k.isLt
    have h2 := (pick fun k => score a (b k)).isLt
    have := congrArg BitVec.toNat h
    rw [BitVec.toNat_ofNat, BitVec.toNat_ofNat, Nat.mod_eq_of_lt (by omega), Nat.mod_eq_of_lt (by omega)] at this
    exact Fin.ext this
  · intro h
    exact absurd (Finset.mem_univ _) h

end Cert.KernelIdeal.Vq

end
-- ==== Proof.Vq.RefRead.lean ====
/- The reference's stages read one element at a time. -/
module

public import proofs.«01_k».proof.Proof.Vq.RefRun
public import proofs.«01_k».proof.Proof.Vq.Pick
public import Idealize.ShloMosaic.Lib.Pointwise

@[expose] public section

set_option maxRecDepth 16384

noncomputable section

namespace Cert.ReferenceIdeal.Vq

open Cert.ReferenceIdeal Cert.ReferenceIdeal.Gen Cert.Vq
open Idealize.ShloMosaic Idealize.ShloMosaic.TcCoe Idealize.ShloMosaic.Tactic

/-- A token's channel is the input's at the token's place. -/
theorem flat_apply (z : FVec Ideal S4x32x16x32x32 .f32) (n : Fin 65536) (c : Fin 32) : flat z (ix2 n c)
    = z (ix5 ⟨n.val / 16384, by omega⟩ c ⟨n.val / 1024 % 16, by omega⟩ ⟨n.val / 32 % 32, by omega⟩ ⟨n.val % 32, by omega⟩) := by
  unfold flat
  pointwise

/-- The literal two. -/
theorem two_word : Ideal.ofBits .f32 0x40000000#32 = ((2 : ℝ) : EReal) := by
  simp [Ideal.ofBits, Ideal.ieee]
  rw [← EReal.coe_mul]
  exact congrArg _ (by norm_num)

/-- A finite token's score against a finite entry is their squared distance. -/
theorem dist_real (x : FVec Ideal S65536x32 .f32) (e : FVec Ideal S1024x32 .f32) (n : Fin 65536) (k : Fin 1024)
    (a : Fin 32 → ℝ) (b : Fin 1024 → Fin 32 → ℝ)
    (ha : ∀ c, x (ix2 n c) = (a c : EReal)) (hb : ∀ k c, e (ix2 k c) = (b k c : EReal)) :
    dist x e (ix2 n k) = ((score a (b k) : ℝ) : EReal) := by
  unfold dist
  pointwise
  simp only [ha, hb, two_word, ← EReal.coe_add, ← EReal.coe_sub, ← EReal.coe_mul, coe_sum]
  rfl

/-! ## The first least column -/

/-- A pair of a value and a column comes no later than another: the value is less, or equal and the column no greater. -/
def Before (a b : Ideal .f32 × BitVec 32) : Prop := (show EReal from a.1) < b.1 ∨ (a.1 = b.1 ∧ a.2.toInt ≤ b.2.toInt)

/-- Every pair comes before itself. -/
theorem before_refl (a : Ideal .f32 × BitVec 32) : Before a a := .inr ⟨rfl, le_refl _⟩

/-- Coming before is transitive. -/
theorem before_trans {a b c : Ideal .f32 × BitVec 32} (h1 : Before a b) (h2 : Before b c) : Before a c := by
  rcases h1 with h1 | ⟨h1, g1⟩ <;> rcases h2 with h2 | ⟨h2, g2⟩
  · exact .inl (lt_trans h1 h2)
  · exact .inl (h2 ▸ h1)
  · exact .inl (by rw [h1]; exact h2)
  · exact .inr ⟨h1.trans h2, le_trans g1 g2⟩

/-- The reducer keeps one of its two pairs, one that comes before both. -/
theorem keeps (a b : Ideal .f32 × BitVec 32) :
    (reducer_argmin_f32_i32 a b = a ∨ reducer_argmin_f32_i32 a b = b)
      ∧ Before (reducer_argmin_f32_i32 a b) a ∧ Before (reducer_argmin_f32_i32 a b) b := by
  obtain ⟨a1, a2⟩ := a
  obtain ⟨b1, b2⟩ := b
  have e3 : FloatOps.cmpf (F := Ideal) (φ := .f32) .une a1 a1 = 0#1 := by simp [Ideal.cmpf_def, Ideal.cmp]
  rcases lt_trichotomy (show EReal from a1) b1 with h | h | h
  · have e2 : FloatOps.cmpf (F := Ideal) (φ := .f32) .olt a1 b1 = 1#1 := by
      rw [Ideal.cmpf_def, Ideal.cmp]
      exact congrArg BitVec.ofBool (decide_eq_true h)
    have e5 : FloatOps.cmpf (F := Ideal) (φ := .f32) .oeq a1 b1 = 0#1 := by
      rw [Ideal.cmpf_def, Ideal.cmp]
      exact congrArg BitVec.ofBool (decide_eq_false h.ne)
    have hr : reducer_argmin_f32_i32 (F := Ideal) (a1, a2) (b1, b2) = (a1, a2) := by
      simp only [reducer_argmin_f32_i32, e2, e3, e5]
      rcases Bool.eq_false_or_eq_true (a2.slt b2) with g | g <;>
        · rw [show IntOp.cmpi .slt a2 b2 = BitVec.ofBool (a2.slt b2) from rfl, g]
          rfl
    rw [hr]
    exact ⟨.inl rfl, before_refl _, .inl h⟩
  · obtain rfl : a1 = b1 := h
    have e2 : FloatOps.cmpf (F := Ideal) (φ := .f32) .olt a1 a1 = 0#1 := by
      rw [Ideal.cmpf_def, Ideal.cmp]
      exact congrArg BitVec.ofBool (decide_eq_false (lt_irrefl _))
    have e5 : FloatOps.cmpf (F := Ideal) (φ := .f32) .oeq a1 a1 = 1#1 := by
      rw [Ideal.cmpf_def, Ideal.cmp]
      exact congrArg BitVec.ofBool (decide_eq_true rfl)
    rcases lt_or_ge a2.toInt b2.toInt with g | g
    · have hr : reducer_argmin_f32_i32 (F := Ideal) (a1, a2) (a1, b2) = (a1, a2) := by
        simp only [reducer_argmin_f32_i32, e2, e3, e5]
        rw [show IntOp.cmpi .slt a2 b2 = BitVec.ofBool (decide (a2.toInt < b2.toInt)) from rfl, decide_eq_true g]
        rfl
      rw [hr]
      exact ⟨.inl rfl, before_refl _, .inr ⟨rfl, g.le⟩⟩
    · have hr : reducer_argmin_f32_i32 (F := Ideal) (a1, a2) (a1, b2) = (a1, b2) := by
        simp only [reducer_argmin_f32_i32, e2, e3, e5]
        rw [show IntOp.cmpi .slt a2 b2 = BitVec.ofBool (decide (a2.toInt < b2.toInt)) from rfl, decide_eq_false (not_lt.mpr g)]
        rfl
      rw [hr]
      exact ⟨.inr rfl, .inr ⟨rfl, g⟩, before_refl _⟩
  · have e2 : FloatOps.cmpf (F := Ideal) (φ := .f32) .olt a1 b1 = 0#1 := by
      rw [Ideal.cmpf_def, Ideal.cmp]
      exact congrArg BitVec.ofBool (decide_eq_false (not_lt.mpr h.le))
    have e5 : FloatOps.cmpf (F := Ideal) (φ := .f32) .oeq a1 b1 = 0#1 := by
      rw [Ideal.cmpf_def, Ideal.cmp]
      exact congrArg BitVec.ofBool (decide_eq_false h.ne')
    have hr : reducer_argmin_f32_i32 (F := Ideal) (a1, a2) (b1, b2) = (b1, b2) := by
      simp only [reducer_argmin_f32_i32, e2, e3, e5]
      rcases Bool.eq_false_or_eq_true (a2.slt b2) with g | g <;>
        · rw [show IntOp.cmpi .slt a2 b2 = BitVec.ofBool (a2.slt b2) from rfl, g]
          rfl
    rw [hr]
    exact ⟨.inr rfl, .inl h, before_refl _⟩

/-- Folded over a list, the reducer keeps the start or a member, one that comes before all of them. -/
theorem keeps_fold (L : List (Ideal .f32 × BitVec 32)) : ∀ s : Ideal .f32 × BitVec 32,
    (L.foldl reducer_argmin_f32_i32 s = s ∨ L.foldl reducer_argmin_f32_i32 s ∈ L)
      ∧ Before (L.foldl reducer_argmin_f32_i32 s) s ∧ ∀ p ∈ L, Before (L.foldl reducer_argmin_f32_i32 s) p := by
  induction L with
  | nil => exact fun s => ⟨.inl rfl, before_refl s, fun p hp => absurd hp List.not_mem_nil⟩
  | cons q L ih =>
    intro s
    obtain ⟨h1, h2, h3⟩ := ih (reducer_argmin_f32_i32 s q)
    obtain ⟨k1, k2, k3⟩ := keeps s q
    rw [List.foldl_cons]
    refine ⟨?_, before_trans h2 k2, fun p hp => ?_⟩
    · rcases h1 with h1 | h1
      · rw [h1]
        rcases k1 with k1 | k1
        · exact .inl k1
        · exact .inr (by rw [k1]; exact List.mem_cons_self)
      · exact .inr (List.mem_cons_of_mem _ h1)
    · rcases List.mem_cons.mp hp with rfl | hp
      · exact before_trans h2 k3
      · exact h3 p hp

/-- Small numbers as words, read signed. -/
theorem entry_toInt (k : Fin 1024) : (BitVec.ofNat 32 k.val).toInt = k.val := by
  have := k.isLt
  rw [BitVec.toInt_eq_toNat_of_lt] <;> rw [BitVec.toNat_ofNat, Nat.mod_eq_of_lt (by omega)]
  omega

/-- Over a list that holds each column's pair and nothing else, from a start above all reals, the fold ends at the
first least column. -/
theorem fold_first (L : List (Ideal .f32 × BitVec 32)) (s : Ideal .f32 × BitVec 32) (D : Fin 1024 → ℝ)
    (hs : (show EReal from s.1) = ⊤)
    (hmem : ∀ k : Fin 1024, (((D k : EReal), BitVec.ofNat 32 k.val) : EReal × BitVec 32) ∈ L)
    (hof : ∀ p ∈ L, ∃ k : Fin 1024, p = (((D k : EReal), BitVec.ofNat 32 k.val) : EReal × BitVec 32)) :
    (L.foldl reducer_argmin_f32_i32 s).2 = BitVec.ofNat 32 (pick D).val := by
  obtain ⟨h1, -, h3⟩ := keeps_fold L s
  generalize List.foldl _ _ _ = r at h1 h3 ⊢
  have hr : ∃ k : Fin 1024, r = (((D k : EReal), BitVec.ofNat 32 k.val) : EReal × BitVec 32) := by
    rcases h1 with h1 | h1
    · rcases h3 _ (hmem 0) with h | h
      · rw [h1] at h
        exact absurd (hs ▸ h : (⊤ : EReal) < (D 0 : EReal)) not_top_lt
      · have h := h.1
        rw [h1] at h
        exact absurd (hs.symm.trans h : (⊤ : EReal) = (D 0 : EReal)) (EReal.coe_ne_top _).symm
    · exact hof r h1
  obtain ⟨k, rfl⟩ := hr
  have hk : IsFirst D k := by
    constructor
    · intro j
      rcases h3 _ (hmem j) with h | h
      · exact (EReal.coe_lt_coe_iff.mp h).le
      · exact (EReal.coe_injective h.1).le
    · intro j hj
      rcases h3 _ (hmem j) with h | h
      · exact EReal.coe_lt_coe_iff.mp h
      · have h : (BitVec.ofNat 32 k.val).toInt ≤ (BitVec.ofNat 32 j.val).toInt := h.2
        rw [entry_toInt, entry_toInt] at h
        exact absurd hj (not_lt.mpr (by exact_mod_cast h))
  rw [hk.unique (pick_first D)]

/-- What the list folded over holds: the pairs at the indices that the reduction sends to the place in question. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i : s.Idx, h.drop i = j ∧ (x i, y i) = p := by
  rw [Host.argReduceFiber, List.mem_map]
  constructor
  · rintro ⟨n, hn, rfl⟩
    exact ⟨s.rowMajor.symm n, by simpa using (List.mem_filter.mp hn).2, rfl⟩
  · rintro ⟨i, hi, rfl⟩
    refine ⟨s.rowMajor i, List.mem_filter.mpr ⟨List.mem_finRange _, ?_⟩, ?_⟩
    · rw [Equiv.symm_apply_apply]
      exact decide_eq_true hi
    · rw [Equiv.symm_apply_apply]

/-- The reduction over columns sends an index to its row. -/
theorem drop_row (m n : Fin 65536) (k : Fin 1024) :
    reducesTo_S65536x1024_S65536_d1.drop (ix2 m k) = ix1 n ↔ m = n := by
  have hv : ((reducesTo_S65536x1024_S65536_d1.drop (ix2 m k)) 0).val = m.val :=
    Shape.ReducesTo.drop_apply_val reducesTo_S65536x1024_S65536_d1 (ix2 m k) 0
  constructor
  · intro h
    rw [h] at hv
    exact Fin.ext hv.symm
  · rintro rfl
    funext b
    obtain rfl : b = 0 := Subsingleton.elim (α := Fin 1) _ _
    exact Fin.ext hv

/-- A reduction whose place gathers 1024 real values in columns ends at the first least column. -/
theorem reduce_first {s t u : Shape} {axes : List (Fin s.rank)} (x : FVec Ideal s .f32) (y : IVec s 32)
    (ix : FVec Ideal u .f32) (iy : IVec u 32) (h : s.ReducesTo axes t) (hu : 0 < u.numel) (j : t.Idx)
    (D : Fin 1024 → ℝ) (place : Fin 1024 → s.Idx) (hp : ∀ k, h.drop (place k) = j)
    (hx : ∀ k, x (place k) = (D k : EReal)) (hy : ∀ k, y (place k) = BitVec.ofNat 32 k.val)
    (honly : ∀ i, h.drop i = j → ∃ k, i = place k) (htop : (show EReal from ix (Shape.Idx.first hu)) = ⊤) :
    (Host.argReduce reducer_argmin_f32_i32 x y ix iy h hu j).2 = BitVec.ofNat 32 (pick D).val := by
  rw [Ideal.argReduce_eq_reduce2, Host.reduce2_eq_foldl_fiber]
  refine fold_first _ _ D htop (fun k => ?_) (fun p hp => ?_)
  · rw [mem_fiber]
    exact ⟨place k, hp k, Prod.ext (hx k) (hy k)⟩
  · rw [mem_fiber] at hp
    obtain ⟨i, h1, rfl⟩ := hp
    obtain ⟨k, rfl⟩ := honly i h1
    exact ⟨k, Prod.ext (hx k) (hy k)⟩

/-- A column's number is its place along the second axis. -/
theorem column_apply (n : Fin 65536) (k : Fin 1024) : iotaInDim S65536x1024 32 1 (ix2 n k) = BitVec.ofNat 32 k.val := by
  pointwise

/-- Only a row's own indices are sent to it. -/
theorem only_row (n : Fin 65536) (i : S65536x1024.Idx) (h : reducesTo_S65536x1024_S65536_d1.drop i = ix1 n) :
    ∃ k : Fin 1024, i = ix2 n k := by
  idx_vars i
  rw [drop_row] at h
  subst h
  exact ⟨i1, rfl⟩

/-- The start's value is above all reals. -/
theorem start_top (i : S_.Idx) : constant (F := Ideal) S_ .f32 0x7F800000#32 i = (⊤ : EReal) := by
  have htop : Ideal.ofBits .f32 0x7F800000#32 = ⊤ := by simp [Ideal.ofBits, Ideal.ieee]
  exact htop

/-- The first least columns as a function, unfolded whole. -/
theorem best_def : @best Ideal _ = fun d j => (Host.argReduce reducer_argmin_f32_i32 d (iotaInDim S65536x1024 32 1)
    (constant S_ .f32 0x7F800000#32) (constantI S_ 32 0#32) reducesTo_S65536x1024_S65536_d1 h_S_ j).2 := rfl

/-- A token whose scores are all real gets the first least column. -/
theorem best_real (d : FVec Ideal S65536x1024 .f32) (n : Fin 65536) (D : Fin 1024 → ℝ)
    (hd : ∀ k, d (ix2 n k) = (D k : EReal)) : best d (ix1 n) = BitVec.ofNat 32 (pick D).val := by
  refine (congrFun (congrFun best_def d) (ix1 n)).trans ?_
  exact reduce_first d (iotaInDim S65536x1024 32 1) (constant S_ .f32 0x7F800000#32) (constantI S_ 32 0#32)
    reducesTo_S65536x1024_S65536_d1 h_S_ (ix1 n) D (fun k => ix2 n k) (fun k => (drop_row n n k).mpr rfl) hd
    (column_apply n) (only_row n) (start_top _)

/-! ## The lookup -/

/-- An entry's number is not wrapped. -/
theorem wrapped_apply (b : IVec S65536 32) (n : Fin 65536) (k : Fin 1024) (hk : b (ix1 n) = BitVec.ofNat 32 k.val) :
    wrapped b (ix2 n 0) = BitVec.ofNat 32 k.val := by
  unfold wrapped
  pointwise
  rw [hk]
  have h : ∀ k : Fin 1024, IntOp.cmpi .slt (BitVec.ofNat 32 k.val) 0#32 = 0#1 := by decide +kernel
  rw [h]
  rfl

/-- An entry's number is in range. -/
theorem inRange_apply (w : IVec S65536x1 32) (n : Fin 65536) (k : Fin 1024) (hk : w (ix2 n 0) = BitVec.ofNat 32 k.val) :
    inRange w (ix1 n) = 1#1 := by
  have h : ∀ k : Fin 1024, IntOp.andi (IntOp.cmpi .sge (BitVec.ofNat 32 k.val) 0#32)
      (IntOp.cmpi .sle (BitVec.ofNat 32 k.val) 1023#32) = 1#1 := by decide +kernel
  unfold inRange
  pointwise
  rw [show (Finset.univ : Finset (Fin 1)) = {0} from rfl, Finset.fold_singleton, hk, h]
  rfl

/-- The gather at an entry's number reads that entry. -/
theorem gather_apply (e : FVec Ideal S1024x32 .f32) (w : IVec S65536x1 32) (n : Fin 65536) (c : Fin 32) (k : Fin 1024)
    (hk : w (ix2 n 0) = BitVec.ofNat 32 k.val) :
    Host.gather gather_S1024x32_S65536x1_S65536x32_1_0_n_n_0_1_132 e w (ix2 n c) = e (ix2 k c) := by
  have hlt := k.isLt
  refine congrArg e (funext fun a => Fin.ext ?_)
  match a with
  | ⟨0, _⟩ =>
    have hs : gather_S1024x32_S65536x1_S65536x32_1_0_n_n_0_1_132.start (ix2 n c) w 0 = k.val := by
      unfold GatherDims.start
      rw [dif_pos (show (0 : Fin 2) ∈ gather_S1024x32_S65536x1_S65536x32_1_0_n_n_0_1_132.startIndexMap from
        List.mem_singleton.mpr rfl)]
      have hw : gather_S1024x32_S65536x1_S65536x32_1_0_n_n_0_1_132.siIdx (ix2 n c)
          ⟨List.idxOf (0 : Fin 2) [0], by decide⟩ = ix2 n 0 := funext fun b => Fin.ext <| by
        match b with
        | ⟨0, _⟩ => rfl
        | ⟨1, _⟩ => rfl
      refine Eq.trans (congrArg (fun i => min (w i).toInt.toNat (1024 - 1)) hw) ?_
      show min (w (ix2 n 0)).toInt.toNat (1024 - 1) = k.val
      rw [hk, BitVec.toInt_eq_toNat_of_lt] <;> rw [BitVec.toNat_ofNat, Nat.mod_eq_of_lt (by omega)]
      · rw [Int.toNat_natCast]
        omega
      · omega
    exact hs
  | ⟨1, _⟩ => exact Nat.zero_add _

/-- The row looked up under an entry's number is that entry. -/
theorem taken_apply (e : FVec Ideal S1024x32 .f32) (b : IVec S65536 32) (n : Fin 65536) (c : Fin 32) (k : Fin 1024)
    (hk : b (ix1 n) = BitVec.ofNat 32 k.val) : taken e b (ix2 n c) = e (ix2 k c) := by
  unfold taken
  pointwise
  rw [inRange_apply _ n k (wrapped_apply b n k hk), gather_apply e _ n c k (wrapped_apply b n k hk)]
  rfl

/-! ## The loss and the layout -/

/-- The mean, read. -/
theorem mean_apply (q x : FVec Ideal S65536x32 .f32) : mean q x ix0
    = Ideal.div (∑ n : Fin 65536, ∑ c : Fin 32, (q (ix2 n c) - x (ix2 n c)) * (q (ix2 n c) - x (ix2 n c)))
        (Ideal.ofBits .f32 0x4A000000#32) := by
  unfold mean
  pointwise

/-- The loss, read. -/
theorem lossOf_apply (q x : FVec Ideal S65536x32 .f32) : lossOf q x ix0
    = mean q x ix0 + Ideal.ofBits .f32 0x3E800000#32 * mean q x ix0 := by
  unfold lossOf
  pointwise

/-- The quantised array, read. -/
theorem laidOut_apply (q x : FVec Ideal S65536x32 .f32) (b : Fin 4) (c : Fin 32) (d : Fin 16) (h w : Fin 32)
    (hn : b.val * 16384 + d.val * 1024 + h.val * 32 + w.val < 65536) : laidOut q x (ix5 b c d h w)
    = x (ix2 ⟨b.val * 16384 + d.val * 1024 + h.val * 32 + w.val, hn⟩ c)
      + (q (ix2 ⟨b.val * 16384 + d.val * 1024 + h.val * 32 + w.val, hn⟩ c)
        - x (ix2 ⟨b.val * 16384 + d.val * 1024 + h.val * 32 + w.val, hn⟩ c)) := by
  unfold laidOut
  pointwise

end Cert.ReferenceIdeal.Vq

end
-- ==== Proof.Vq.Tokens.lean ====
/- What the idealized kernel leaves for each token, against the reference's tokens. -/
module

public import proofs.«01_k».proof.Proof.Vq.Arrays
public import proofs.«01_k».proof.Proof.Vq.KerValue
public import proofs.«01_k».proof.Proof.Vq.RefRead
public import Idealize.ShloMosaic.Lib.Claim
public import Idealize.ShloMosaic.Lib.StableHlo.ReadAt

@[expose] public section

set_option maxRecDepth 16384

noncomputable section

namespace Cert.KernelIdeal.Vq

open Cert.KernelIdeal Cert.KernelIdeal.Gen Cert.Vq
open Idealize.ShloMosaic Idealize.ShloMosaic.TcCoe Idealize.ShloMosaic.Tactic

variable (m : (ℓ : Loc nD τ sig) → Buf (Elt Ideal) ℓ) (c : Dev nD)

/-- The input, as launched. -/
def inp : FVec Ideal S4x32x16x32x32 .f32 := m ((c : Thread nD τ).loc main_arg0)

/-- A block's pixel is the input's at the pixel's place. -/
theorem block_apply (t : Fin cfg0.N) (ht : t.val < 16) (ch : Fin 32) (r : Fin 128) (q : Fin 32) :
    iblk m c 0 t (ix4 0 ch r q) = inp m c (ix5 ⟨t.val / 4, by omega⟩ ch ⟨(t.val % 4 * 128 + r.val) / 32, by omega⟩
      ⟨(t.val % 4 * 128 + r.val) % 32, by omega⟩ q) := by
  unfold inp
  have h := ((idx t).1)
  refine (show iblk m c 0 t (ix4 0 ch r q) = V m c main_call0_v0 (ix4 ⟨t.val / 4, by omega⟩ ch ⟨t.val % 4 * 128 + r.val, by omega⟩ q) from ?_).trans ?_
  · blk_ext [iblk, idx t]
  · after_reads_at

/-- A block's token is the reference's token of the same number. -/
theorem token_apply (t : ℕ) (ht : t < 16) (ch : Fin 32) (p : Fin 4096) (n : Fin 65536) (hn : n.val = t * 4096 + p.val) :
    k0_pay5 (iblk m c 0 (point t ht)) (ix2 ch p) = Cert.ReferenceIdeal.Vq.flat (inp m c) (ix2 n ch) := by
  rw [col_apply, block_apply m c (point t ht) ht, Cert.ReferenceIdeal.Vq.flat_apply]
  have hv : (point t ht).val = t := rfl
  blk_ext [hv]

/-- The real tokens of an input. -/
def tok (n : Fin 65536) (ch : Fin 32) : ℝ := (show EReal from Cert.ReferenceIdeal.Vq.flat (inp m c) (ix2 n ch)).toReal

/-- The real entries of a codebook. -/
def ent (k : Fin 1024) (ch : Fin 32) : ℝ := (show EReal from emb m c (ix2 k ch)).toReal

/-- The entry nearest to a token, the first of equals. -/
def near (n : Fin 65536) : Fin 1024 := pick fun k => score (tok m c n) (ent m c k)

/-- Both arguments are real throughout. -/
def AllReal : Prop := (∀ i, inp m c i = (((show EReal from inp m c i).toReal : ℝ) : EReal))
  ∧ ∀ i, emb m c i = (((show EReal from emb m c i).toReal : ℝ) : EReal)

variable {m c}

/-- A token's channel is its real. -/
theorem tok_real (H : AllReal m c) (n : Fin 65536) (ch : Fin 32) :
    Cert.ReferenceIdeal.Vq.flat (inp m c) (ix2 n ch) = ((tok m c n ch : ℝ) : EReal) := by
  rw [tok, Cert.ReferenceIdeal.Vq.flat_apply]
  exact H.1 _

/-- An entry's channel is its real. -/
theorem ent_real (H : AllReal m c) (k : Fin 1024) (ch : Fin 32) : emb m c (ix2 k ch) = ((ent m c k ch : ℝ) : EReal) :=
  H.2 _

/-- The kernel's entry number for a token. -/
theorem code_near (H : AllReal m c) (t : ℕ) (ht : t < 16) (p : Fin 4096) (n : Fin 65536) (hn : n.val = t * 4096 + p.val) :
    code (iblk m c 0 (point t ht)) (emb m c) (ix1 p) = BitVec.ofNat 32 (near m c n).val :=
  code_real _ _ (tok m c n) (ent m c) p (fun ch => (token_apply m c t ht ch p n hn).trans (tok_real H n ch)) (ent_real H)

/-- The kernel's row for a token. -/
theorem row_near (H : AllReal m c) (t : ℕ) (ht : t < 16) (ch : Fin 32) (p : Fin 4096) (n : Fin 65536)
    (hn : n.val = t * 4096 + p.val) :
    rowK (iblk m c 0 (point t ht)) (emb m c) (ix2 ch p) = ((ent m c (near m c n) ch : ℝ) : EReal) :=
  rowK_real _ _ (tok m c n) (ent m c) p (fun ch => (token_apply m c t ht ch p n hn).trans (tok_real H n ch)) (ent_real H) ch

/-- The reference's entry number for a token. -/
theorem ref_near (H : AllReal m c) (n : Fin 65536) :
    Cert.ReferenceIdeal.Vq.refI (inp m c) (emb m c) (ix1 n) = BitVec.ofNat 32 (near m c n).val :=
  Cert.ReferenceIdeal.Vq.best_real _ n _ fun k =>
    Cert.ReferenceIdeal.Vq.dist_real _ _ n k (tok m c n) (ent m c) (tok_real H n) (ent_real H)

/-- The reference's row for a token. -/
theorem ref_row (H : AllReal m c) (n : Fin 65536) (ch : Fin 32) :
    Cert.ReferenceIdeal.Vq.taken (emb m c) (Cert.ReferenceIdeal.Vq.refI (inp m c) (emb m c)) (ix2 n ch)
      = ((ent m c (near m c n) ch : ℝ) : EReal) :=
  (Cert.ReferenceIdeal.Vq.taken_apply _ _ n ch (near m c n) (ref_near H n)).trans (ent_real H _ _)

/-- The third result: both programs leave the same entry numbers. -/
theorem same_indices (H : AllReal m c) : shapeCast S65536 (arrI m c) shapeCasts_S16x32x128_S65536
    = Cert.ReferenceIdeal.Vq.refI (inp m c) (emb m c) := by
  funext j
  idx_vars j
  rw [ref_near H]
  pointwise
  unfold arrI
  have hj := j0.isLt
  refine (outI_apply _ _ ⟨j0.val / 128 % 32, by omega⟩ ⟨j0.val % 128, by omega⟩
    (show j0.val / 128 % 32 * 128 + j0.val % 128 < 4096 by omega)).trans ?_
  refine code_near H (j0.val / 4096) (by omega) _ j0 ?_
  show j0.val = j0.val / 4096 * 4096 + (j0.val / 128 % 32 * 128 + j0.val % 128)
  omega

/-- The first result: both programs leave the same quantised array. -/
theorem same_array (H : AllReal m c) :
    shapeCast S4x32x16x32x32 (arrZ m c) shapeCasts_S4x32x512x32_S4x32x16x32x32
      = Cert.ReferenceIdeal.Vq.refQ (inp m c) (emb m c) := by
  funext j
  idx_vars j
  have hn : j0.val * 16384 + j2.val * 1024 + j3.val * 32 + j4.val < 65536 := by omega
  unfold Cert.ReferenceIdeal.Vq.refQ
  rw [Cert.ReferenceIdeal.Vq.laidOut_apply _ _ _ _ _ _ _ hn, ref_row H]
  pointwise
  unfold arrZ
  have ht : 4 * j0.val + (j2.val * 32 + j3.val) / 128 < 16 := by omega
  have hp : (j2.val * 32 + j3.val) % 128 * 32 + j4.val < 4096 := by omega
  have e : j0.val * 16384 + j2.val * 1024 + j3.val * 32 + j4.val
      = (4 * j0.val + (j2.val * 32 + j3.val) / 128) * 4096 + ((j2.val * 32 + j3.val) % 128 * 32 + j4.val) := by omega
  refine (outZ_apply _ _ j1 ⟨(j2.val * 32 + j3.val) % 128, by omega⟩ j4 hp).trans ?_
  have h1 := token_apply m c (4 * j0.val + (j2.val * 32 + j3.val) / 128) ht j1 ⟨_, hp⟩ ⟨_, hn⟩ e
  have h2 := row_near H (4 * j0.val + (j2.val * 32 + j3.val) / 128) ht j1 ⟨_, hp⟩ ⟨_, hn⟩ e
  exact congrArg₂ (fun a b : EReal => a + (b - a)) h1 h2

/-! ## The loss -/

/-- The squared gap between a token's channel and its nearest entry's. -/
def gap (m : (ℓ : Loc nD τ sig) → Buf (Elt Ideal) ℓ) (c : Dev nD) (n : ℕ) (ch : Fin 32) : ℝ :=
  if h : n < 65536 then (ent m c (near m c ⟨n, h⟩) ch - tok m c ⟨n, h⟩ ch) * (ent m c (near m c ⟨n, h⟩) ch - tok m c ⟨n, h⟩ ch)
  else 0

/-- A block's part of the loss: its tokens' squared gaps. -/
theorem part_gap (H : AllReal m c) (t : ℕ) (ht : t < 16) : part (iblk m c 0 (point t ht)) (emb m c) (ix2 0 0)
    = ((∑ p : Fin 4096, ∑ ch : Fin 32, gap m c (t * 4096 + p.val) ch : ℝ) : EReal) := by
  rw [part_apply, Finset.sum_comm]
  simp only [← coe_sum]
  refine Finset.sum_congr rfl fun p _ => Finset.sum_congr rfl fun ch _ => ?_
  have hn : t * 4096 + p.val < 65536 := by omega
  rw [row_near H t ht ch p ⟨_, hn⟩ rfl, token_apply m c t ht ch p ⟨_, hn⟩ rfl, tok_real H, gap, dif_pos hn,
    ← EReal.coe_sub, ← EReal.coe_mul]

/-- The accumulated loss after a point: the squared gaps of all tokens so far. -/
theorem acc_gap (H : AllReal m c) : ∀ (n : ℕ) (h : n < cfg0.N), accAt m c n h (ix2 0 0)
    = ((∑ t ∈ Finset.range (n + 1), ∑ p : Fin 4096, ∑ ch : Fin 32, gap m c (t * 4096 + p.val) ch : ℝ) : EReal)
  | 0, h => by
    rw [Finset.sum_range_one]
    exact part_gap H 0 (by norm_num)
  | n + 1, h => by
    have h16 : n + 1 < 16 := lt_of_lt_of_eq h N_0
    have e : accAt m c (n + 1) h (ix2 0 0) = accAt m c n (Nat.lt_of_succ_lt h) (ix2 0 0)
        + part (iblk m c 0 (point (n + 1) h16)) (emb m c) (ix2 0 0) := by
      rw [show accAt m c (n + 1) h = addf (k0_pay14 (accAt m c n (Nat.lt_of_succ_lt h)))
        (part (iblk m c 0 ⟨n + 1, h⟩) (emb m c)) from rfl]
      unfold k0_pay14
      pointwise
      rfl
    rw [e, acc_gap H n, part_gap H (n + 1) h16, ← EReal.coe_add, Finset.sum_range_succ _ (n + 1)]

/-- The squared gaps of all tokens. -/
theorem gap_total (m : (ℓ : Loc nD τ sig) → Buf (Elt Ideal) ℓ) (c : Dev nD) :
    ∑ t ∈ Finset.range 16, ∑ p : Fin 4096, ∑ ch : Fin 32, gap m c (t * 4096 + p.val) ch
      = ∑ n : Fin 65536, ∑ ch : Fin 32, gap m c n.val ch := by
  rw [Finset.sum_range]
  exact Fin.sum_univ_univ_mul_add 16 4096 fun n => ∑ ch : Fin 32, gap m c n ch

/-- The reference's mean squared gap. -/
theorem mean_gap (H : AllReal m c) : Cert.ReferenceIdeal.Vq.mean
      (Cert.ReferenceIdeal.Vq.taken (emb m c) (Cert.ReferenceIdeal.Vq.refI (inp m c) (emb m c)))
      (Cert.ReferenceIdeal.Vq.flat (inp m c)) ix0
    = (((∑ n : Fin 65536, ∑ ch : Fin 32, gap m c n.val ch) * (1 / 2097152) : ℝ) : EReal) := by
  have hl : Ideal.ofBits .f32 0x4A000000#32 = ((2097152 : ℝ) : EReal) := by
    simp [Ideal.ofBits, Ideal.ieee]
    rw [← EReal.coe_mul]
    exact congrArg _ (by norm_num)
  have hg : ∀ (n : Fin 65536) (ch : Fin 32),
      (Cert.ReferenceIdeal.Vq.taken (emb m c) (Cert.ReferenceIdeal.Vq.refI (inp m c) (emb m c)) (ix2 n ch)
        - Cert.ReferenceIdeal.Vq.flat (inp m c) (ix2 n ch))
      * (Cert.ReferenceIdeal.Vq.taken (emb m c) (Cert.ReferenceIdeal.Vq.refI (inp m c) (emb m c)) (ix2 n ch)
        - Cert.ReferenceIdeal.Vq.flat (inp m c) (ix2 n ch)) = ((gap m c n.val ch : ℝ) : EReal) := fun n ch => by
    rw [ref_row H, tok_real H, gap, dif_pos n.isLt, ← EReal.coe_sub, ← EReal.coe_mul]
  rw [Cert.ReferenceIdeal.Vq.mean_apply, hl, Ideal.div_coe (by norm_num)]
  simp only [hg, coe_sum]
  rw [← EReal.coe_mul]

/-- The second result: both programs leave the same loss. -/
theorem same_loss (H : AllReal m c) (h : 15 < cfg0.N) :
    lossK (accAt m c 15 h) = Cert.ReferenceIdeal.Vq.refL (inp m c) (emb m c) := by
  have hl : Ideal.ofBits .f32 0x4A000000#32 = ((2097152 : ℝ) : EReal) := by
    simp [Ideal.ofBits, Ideal.ieee]
    rw [← EReal.coe_mul]
    exact congrArg _ (by norm_num)
  have h5 : Ideal.ofBits .f32 0x3FA00000#32 = ((5 / 4 : ℝ) : EReal) := by
    simp [Ideal.ofBits, Ideal.ieee]
    rw [← EReal.coe_mul]
    exact congrArg _ (by norm_num)
  have h4 : Ideal.ofBits .f32 0x3E800000#32 = ((1 / 4 : ℝ) : EReal) := by
    simp [Ideal.ofBits, Ideal.ieee]
    rw [← EReal.coe_mul]
    exact congrArg _ (by norm_num)
  funext j
  obtain rfl : j = ix0 := funext fun k => k.elim0
  unfold Cert.ReferenceIdeal.Vq.refL
  rw [Cert.ReferenceIdeal.Vq.lossOf_apply, mean_gap H, h4]
  have e : lossK (accAt m c 15 h) ix0
      = Ideal.div (Ideal.ofBits .f32 0x3FA00000#32 * accAt m c 15 h (ix2 0 0)) (Ideal.ofBits .f32 0x4A000000#32) := by
    unfold lossK
    pointwise
  rw [e, acc_gap H, hl, h5, gap_total, Ideal.div_coe (by norm_num), ← EReal.coe_mul, ← EReal.coe_mul, ← EReal.coe_mul,
    ← EReal.coe_add]
  refine congrArg _ ?_
  ring

end Cert.KernelIdeal.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Vq.Launch
public import proofs.«01_k».proof.Proof.Vq.Transfer
public import proofs.«01_k».proof.Proof.Vq.RefRun
public import proofs.«01_k».proof.Proof.Vq.Finite
public import proofs.«01_k».proof.Proof.Vq.Tokens
public import Idealize.ShloMosaic.Adequacy
public import Idealize.ShloMosaic.Init

@[expose] public section

noncomputable section

namespace Cert.Proof

open Idealize.ShloMosaic Idealize.SL.Sem Cert.Kernel

/-- The kernel runs, keeps its arguments and leaves its semaphores at zero. -/
theorem frame_ker : quiescent_Kernel := fun m g _ => Cert.Kernel.Vq.frame_all m g

/-- So does the kernel with the replaced operation. -/
theorem frame_ideal : quiescent_KernelIdeal := fun m g _ => Cert.KernelIdeal.Vq.frame_all m g

/-- The reference runs, keeps its arguments and leaves its semaphores at zero. -/
theorem frame_ref : quiescent_ReferenceIdeal := fun m g _ =>
  (θ_run _ _ _).mono (fun _ h => ⟨fun c => (h.1 c).2.2.2, h.2⟩) (Cert.ReferenceIdeal.Vq.run_ref m g)

/-- The precondition says that both arguments are real throughout. -/
theorem all_real (m : (ℓ : Loc Cert.KernelIdeal.nD Cert.KernelIdeal.τ Cert.KernelIdeal.sig) → Buf (Elt Ideal) ℓ)
    (h : Pre_KernelIdeal_finite m) (c : Dev Cert.KernelIdeal.nD) : Cert.KernelIdeal.Vq.AllReal m c :=
  Cert.Pre_finite.Vq.real_of_pre _ _ (h c).1 (h c).2

/-- On finite arguments the kernel and the reference leave equal arrays, losses and entry numbers. -/
theorem equal_results : algebraic_KernelIdeal_ReferenceIdeal_pre_finite := fun m g m' g' hp ha => by
  refine ⟨_, _, _, Cert.KernelIdeal.Vq.run_ker m g, ?_⟩
  refine (θ_run _ _ _).mono (fun r h c => ?_) (Cert.ReferenceIdeal.Vq.run_ref m' g')
  have H := all_real m hp c
  obtain ⟨hq, hl, hi, hz, he⟩ := h.1 c
  rw [(ha c).1, (ha c).2] at hq hl hi
  exact ⟨hq.trans (Cert.KernelIdeal.Vq.same_array H).symm, hl.trans (Cert.KernelIdeal.Vq.same_loss H _).symm,
    hi.trans (Cert.KernelIdeal.Vq.same_indices H).symm, hz, he⟩

/-- Every claim. -/
theorem claim : Cert.Claim :=
  ⟨Cert.Kernel.Gen.facts, Cert.KernelIdeal.Gen.facts, Cert.ReferenceIdeal.Gen.facts, Cert.Pre_finite.Gen.facts,
    frame_ker, frame_ideal, fun m g _ => frame_ideal m g trivial, frame_ref, fun m g _ => frame_ref m g trivial, trivial, equal_results⟩

end Cert.Proof

end
